-- ==== Defs.lean ====
def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2_0)) (v1 : (c : Dev Cert.NormIdeal.nD) → Buf (Elt Ideal) ((c.tc : Thread Cert.NormIdeal.nD Cert.NormIdeal.τ).loc Cert.NormIdeal.main_v2_1)) (v2 : (c : Dev Cert.NormIdeal.nD) → Buf (Elt Ideal) ((c.tc : Thread Cert.NormIdeal.nD Cert.NormIdeal.τ).loc Cert.NormIdeal.main_v2_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2_0) = v0 c
          ∧ r.2.mem ((c.tc : Thread Cert.NormIdeal.nD Cert.NormIdeal.τ).loc Cert.NormIdeal.main_v2_1) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v2_0) = v0 c
          ∧ r.2.mem ((c.tc : Thread Cert.NormRefIdeal.nD Cert.NormRefIdeal.τ).loc Cert.NormRefIdeal.main_v2_1) = v1 c
          ∧ r.2.mem ((c.tc : Thread Cert.NormRefIdeal.nD Cert.NormRefIdeal.τ).loc Cert.NormRefIdeal.main_v2_2) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0_0) = v0 c
          ∧ r.2.mem ((c.tc : Thread Cert.InProjRefIdeal.nD Cert.InProjRefIdeal.τ).loc Cert.InProjRefIdeal.main_v0_1) = v1 c
          ∧ r.2.mem ((c.tc : Thread Cert.InProjRefIdeal.nD Cert.InProjRefIdeal.τ).loc Cert.InProjRefIdeal.main_v0_2) = v2 c
          ∧ r.2.mem ((c.tc : Thread Cert.InProjRefIdeal.nD Cert.InProjRefIdeal.τ).loc Cert.InProjRefIdeal.main_v0_3) = v3 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def Claim : Prop :=
  ∃ (hNorm : Cert.Norm.Facts) (hNormIdeal : Cert.NormIdeal.Facts) (hNormRefIdeal : Cert.NormRefIdeal.Facts) (hInProj : Cert.InProj.Facts) (hInProjIdeal : Cert.InProjIdeal.Facts) (hInProjRefIdeal : Cert.InProjRefIdeal.Facts) (hDown : Cert.Down.Facts) (hDownIdeal : Cert.DownIdeal.Facts) (hDownRefIdeal : Cert.DownRefIdeal.Facts),
    quiescent_Norm (hNorm := hNorm)
    ∧ quiescent_NormIdeal (hNormIdeal := hNormIdeal)
    ∧ quiescent_NormRefIdeal (hNormRefIdeal := hNormRefIdeal)
    ∧ quiescent_InProj (hInProj := hInProj)
    ∧ quiescent_InProjIdeal (hInProjIdeal := hInProjIdeal)
    ∧ quiescent_InProjRefIdeal (hInProjRefIdeal := hInProjRefIdeal)
    ∧ quiescent_Down (hDown := hDown)
    ∧ quiescent_DownIdeal (hDownIdeal := hDownIdeal)
    ∧ quiescent_DownRefIdeal (hDownRefIdeal := hDownRefIdeal)
    ∧ preserves_Norm_NormIdeal
    ∧ algebraic_NormIdeal_NormRefIdeal (hNormIdeal := hNormIdeal) (hNormRefIdeal := hNormRefIdeal)
    ∧ preserves_InProj_InProjIdeal
    ∧ algebraic_InProjIdeal_InProjRefIdeal (hInProjIdeal := hInProjIdeal) (hInProjRefIdeal := hInProjRefIdeal)
    ∧ preserves_Down_DownIdeal
    ∧ algebraic_DownIdeal_DownRefIdeal (hDownIdeal := hDownIdeal) (hDownRefIdeal := hDownRefIdeal)
-- ==== Norm.lean ====
abbrev S4x2048x3584 : Shape := ⟨3, ![4, 2048, 3584]⟩
abbrev S3584 : Shape := ⟨1, ![3584]⟩
abbrev S8192x3584 : Shape := ⟨2, ![8192, 3584]⟩
abbrev S1x3584 : Shape := ⟨2, ![1, 3584]⟩
abbrev S8192x28 : Shape := ⟨2, ![8192, 28]⟩
abbrev S256x3584 : Shape := ⟨2, ![256, 3584]⟩
abbrev S256x28 : Shape := ⟨2, ![256, 28]⟩
abbrev S256 : Shape := ⟨1, ![256]⟩
abbrev S256x1 : Shape := ⟨2, ![256, 1]⟩
abbrev S256x128 : Shape := ⟨2, ![256, 128]⟩
abbrev S1x128 : Shape := ⟨2, ![1, 128]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x3584, .bf16⟩
  | .hbm, ⟨1, _⟩ => ⟨S3584, .bf16⟩
  | .hbm, ⟨2, _⟩ => ⟨S8192x3584, .bf16⟩
  | .hbm, ⟨3, _⟩ => ⟨S1x3584, .bf16⟩
  | .hbm, ⟨4, _⟩ => ⟨S8192x3584, .fp8e4m3⟩
  | .hbm, ⟨5, _⟩ => ⟨S8192x28, .f32⟩
  | .hbm, ⟨6, _⟩ => ⟨S8192x3584, .bf16⟩
  | .local _ .vmem, ⟨0, _⟩ => ⟨S256x3584, .bf16⟩
  | .local _ .vmem, ⟨1, _⟩ => ⟨S256x3584, .bf16⟩
  | .local _ .vmem, ⟨2, _⟩ => ⟨S1x3584, .bf16⟩
  | .local _ .vmem, ⟨3, _⟩ => ⟨S256x3584, .fp8e4m3⟩
  | .local _ .vmem, ⟨4, _⟩ => ⟨S256x3584, .fp8e4m3⟩
  | .local _ .vmem, ⟨5, _⟩ => ⟨S256x28, .f32⟩
  | .local _ .vmem, ⟨6, _⟩ => ⟨S256x28, .f32⟩
  | .local _ .vmem, ⟨7, _⟩ => ⟨S256x3584, .bf16⟩
  | .local _ .vmem, ⟨8, _⟩ => ⟨S256x3584, .bf16⟩
  | _, _ => ⟨S4x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3584 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x28 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S4x2048x3584 : Shape := ⟨3, ![4, 2048, 3584]⟩
abbrev S3584 : Shape := ⟨1, ![3584]⟩
abbrev S8192x3584 : Shape := ⟨2, ![8192, 3584]⟩
abbrev S1x3584 : Shape := ⟨2, ![1, 3584]⟩
abbrev S8192x28 : Shape := ⟨2, ![8192, 28]⟩
abbrev S8192 : Shape := ⟨1, ![8192]⟩
abbrev S8192x1 : Shape := ⟨2, ![8192, 1]⟩
abbrev S8192x28x128 : Shape := ⟨3, ![8192, 28, 128]⟩
abbrev S8192x28x254 : Shape := ⟨3, ![8192, 28, 254]⟩
abbrev S8192x28x1 : Shape := ⟨3, ![8192, 28, 1]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x3584, .bf16⟩
  | .hbm, ⟨1, _⟩ => ⟨S3584, .bf16⟩
  | .hbm, ⟨2, _⟩ => ⟨S8192x3584, .bf16⟩
  | .hbm, ⟨3, _⟩ => ⟨S1x3584, .bf16⟩
  | .hbm, ⟨4, _⟩ => ⟨S8192x3584, .fp8e4m3⟩
  | .hbm, ⟨5, _⟩ => ⟨S8192x28, .f32⟩
  | .hbm, ⟨6, _⟩ => ⟨S8192x3584, .bf16⟩
  | .local _ .vmem, ⟨0, _⟩ => ⟨S8192x3584, .bf16⟩
  | .local _ .vmem, ⟨1, _⟩ => ⟨S1x3584, .bf16⟩
  | .local _ .vmem, ⟨2, _⟩ => ⟨S8192x3584, .fp8e4m3⟩
  | .local _ .vmem, ⟨3, _⟩ => ⟨S8192x28, .f32⟩
  | .local _ .vmem, ⟨4, _⟩ => ⟨S8192x3584, .bf16⟩
  | _, _ => ⟨S4x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x28 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== InProj.lean ====
abbrev S28x83 : Shape := ⟨2, ![28, 83]⟩
abbrev S8192x3584 : Shape := ⟨2, ![8192, 3584]⟩
abbrev S3584x10624 : Shape := ⟨2, ![3584, 10624]⟩
abbrev S8192x1280 : Shape := ⟨2, ![8192, 1280]⟩
abbrev S8192x4736 : Shape := ⟨2, ![8192, 4736]⟩
abbrev S8192x37 : Shape := ⟨2, ![8192, 37]⟩
abbrev S1024x3584 : Shape := ⟨2, ![1024, 3584]⟩
abbrev S3584x128 : Shape := ⟨2, ![3584, 128]⟩
abbrev S1024x256 : Shape := ⟨2, ![1024, 256]⟩
abbrev S1024x128 : Shape := ⟨2, ![1024, 128]⟩
abbrev S1024x37 : Shape := ⟨2, ![1024, 37]⟩
abbrev S1x1 : Shape := ⟨2, ![1, 1]⟩
abbrev S128x128 : Shape := ⟨2, ![128, 128]⟩
abbrev S3584x256 : Shape := ⟨2, ![3584, 256]⟩
abbrev S1024 : Shape := ⟨1, ![1024]⟩
abbrev S1024x1 : Shape := ⟨2, ![1024, 1]⟩

abbrev nBuf : Space → Nat
  | .hbm => 7
  | .vmem => 14
  | .smem => 1
  | _ => 0

abbrev bufTy : (tb : Table) → Fin (tcTables nBuf tb) → BufTy
  | .hbm, ⟨0, _⟩ => ⟨S28x83, .f32⟩
  | .hbm, ⟨1, _⟩ => ⟨S8192x3584, .bf16⟩
  | .hbm, ⟨2, _⟩ => ⟨S3584x10624, .fp8e4m3⟩
  | .hbm, ⟨3, _⟩ => ⟨S8192x1280, .bf16⟩
  | .hbm, ⟨4, _⟩ => ⟨S8192x4736, .fp8e4m3⟩
  | .hbm, ⟨5, _⟩ => ⟨S8192x37, .f32⟩
  | .hbm, ⟨6, _⟩ => ⟨S8192x4736, .bf16⟩
  | .local _ .vmem, ⟨0, _⟩ => ⟨S1024x3584, .bf16⟩
  | .local _ .vmem, ⟨1, _⟩ => ⟨S1024x3584, .bf16⟩
  | .local _ .vmem, ⟨2, _⟩ => ⟨S3584x128, .fp8e4m3⟩
  | .local _ .vmem, ⟨3, _⟩ => ⟨S3584x128, .fp8e4m3⟩
  | .local _ .vmem, ⟨4, _⟩ => ⟨S3584x128, .fp8e4m3⟩
  | .local _ .vmem, ⟨5, _⟩ => ⟨S3584x128, .fp8e4m3⟩
  | .local _ .vmem, ⟨6, _⟩ => ⟨S1024x256, .bf16⟩
  | .local _ .vmem, ⟨7, _⟩ => ⟨S1024x256, .bf16⟩
  | .local _ .vmem, ⟨8, _⟩ => ⟨S1024x128, .fp8e4m3⟩
  | .local _ .vmem, ⟨9, _⟩ => ⟨S1024x128, .fp8e4m3⟩
  | .local _ .vmem, ⟨10, _⟩ => ⟨S1024x37, .f32⟩
  | .local _ .vmem, ⟨11, _⟩ => ⟨S1024x37, .f32⟩
  | .local _ .vmem, ⟨12, _⟩ => ⟨S1024x128, .bf16⟩
  | .local _ .vmem, ⟨13, _⟩ => ⟨S1024x128, .bf16⟩
  | .local _ .smem, ⟨0, _⟩ => ⟨S28x83, .f32⟩
  | _, _ => ⟨S28x83, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 42], ![false, false]⟩

def k0_off1 (i : grid0.Coords) : Fin 2 → Nat :=
  let c0 : Index := 0#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v11 : Index := Scalar.indexCast v4
  ![0, v11.toNat]
def k0_off2 (i : grid0.Coords) : Fin 2 → Nat :=
  let c1 : Index := 1#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v19 : Index := Scalar.indexCast v4
  ![1, v19.toNat]
def k0_off3 (i : grid0.Coords) : Fin 2 → Nat :=
  let c2 : Index := 2#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v27 : Index := Scalar.indexCast v4
  ![2, v27.toNat]
def k0_off4 (i : grid0.Coords) : Fin 2 → Nat :=
  let c3 : Index := 3#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v35 : Index := Scalar.indexCast v4
  ![3, v35.toNat]
def k0_off5 (i : grid0.Coords) : Fin 2 → Nat :=
  let c4 : Index := 4#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v43 : Index := Scalar.indexCast v4
  ![4, v43.toNat]
def k0_off6 (i : grid0.Coords) : Fin 2 → Nat :=
  let c5 : Index := 5#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v51 : Index := Scalar.indexCast v4
  ![5, v51.toNat]
def k0_off7 (i : grid0.Coords) : Fin 2 → Nat :=
  let c6 : Index := 6#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v59 : Index := Scalar.indexCast v4
  ![6, v59.toNat]
def k0_off8 (i : grid0.Coords) : Fin 2 → Nat :=
  let c7 : Index := 7#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v67 : Index := Scalar.indexCast v4
  ![7, v67.toNat]
def k0_off9 (i : grid0.Coords) : Fin 2 → Nat :=
  let c8 : Index := 8#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v75 : Index := Scalar.indexCast v4
  ![8, v75.toNat]
def k0_off10 (i : grid0.Coords) : Fin 2 → Nat :=
  let c9 : Index := 9#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v83 : Index := Scalar.indexCast v4
  ![9, v83.toNat]
def k0_off11 (i : grid0.Coords) : Fin 2 → Nat :=
  let c10 : Index := 10#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v91 : Index := Scalar.indexCast v4
  ![10, v91.toNat]
def k0_off12 (i : grid0.Coords) : Fin 2 → Nat :=
  let c11 : Index := 11#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v99 : Index := Scalar.indexCast v4
  ![11, v99.toNat]
def k0_off13 (i : grid0.Coords) : Fin 2 → Nat :=
  let c12 : Index := 12#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v107 : Index := Scalar.indexCast v4
  ![12, v107.toNat]
def k0_off14 (i : grid0.Coords) : Fin 2 → Nat :=
  let c13 : Index := 13#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v115 : Index := Scalar.indexCast v4
  ![13, v115.toNat]
def k0_off15 (i : grid0.Coords) : Fin 2 → Nat :=
  let c14 : Index := 14#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v123 : Index := Scalar.indexCast v4
  ![14, v123.toNat]
def k0_off16 (i : grid0.Coords) : Fin 2 → Nat :=
  let c15 : Index := 15#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v131 : Index := Scalar.indexCast v4
  ![15, v131.toNat]
def k0_off17 (i : grid0.Coords) : Fin 2 → Nat :=
  let c16 : Index := 16#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v139 : Index := Scalar.indexCast v4
  ![16, v139.toNat]
def k0_off18 (i : grid0.Coords) : Fin 2 → Nat :=
  let c17 : Index := 17#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v147 : Index := Scalar.indexCast v4
  ![17, v147.toNat]
def k0_off19 (i : grid0.Coords) : Fin 2 → Nat :=
  let c18 : Index := 18#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v155 : Index := Scalar.indexCast v4
  ![18, v155.toNat]
def k0_off20 (i : grid0.Coords) : Fin 2 → Nat :=
  let c19 : Index := 19#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v163 : Index := Scalar.indexCast v4
  ![19, v163.toNat]
def k0_off21 (i : grid0.Coords) : Fin 2 → Nat :=
  let c20 : Index := 20#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v171 : Index := Scalar.indexCast v4
  ![20, v171.toNat]
def k0_off22 (i : grid0.Coords) : Fin 2 → Nat :=
  let c21 : Index := 21#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v179 : Index := Scalar.indexCast v4
  ![21, v179.toNat]
def k0_off23 (i : grid0.Coords) : Fin 2 → Nat :=
  let c22 : Index := 22#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v187 : Index := Scalar.indexCast v4
  ![22, v187.toNat]
def k0_off24 (i : grid0.Coords) : Fin 2 → Nat :=
  let c23 : Index := 23#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v195 : Index := Scalar.indexCast v4
  ![23, v195.toNat]
def k0_off25 (i : grid0.Coords) : Fin 2 → Nat :=
  let c24 : Index := 24#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v203 : Index := Scalar.indexCast v4
  ![24, v203.toNat]
def k0_off26 (i : grid0.Coords) : Fin 2 → Nat :=
  let c25 : Index := 25#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v211 : Index := Scalar.indexCast v4
  ![25, v211.toNat]
def k0_off27 (i : grid0.Coords) : Fin 2 → Nat :=
  let c26 : Index := 26#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v219 : Index := Scalar.indexCast v4
  ![26, v219.toNat]
def k0_off28 (i : grid0.Coords) : Fin 2 → Nat :=
  let c27 : Index := 27#32
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c2_i32 : BitVec 32 := 2#32
  let c37_i32_0 : BitVec 32 := 37#32
  let v2 : BitVec 32 := Scalar.subi arg1 c37_i32_0
  let v3 : BitVec 32 := Scalar.muli c2_i32 v2
  let v4 : BitVec 32 := Scalar.select v0 v1 v3
  let v227 : Index := Scalar.indexCast v4
  ![27, v227.toNat]
def k0_off29 (i : grid0.Coords) : Fin 2 → Nat :=
  let c0_32 : Index := 0#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v236 : Index := Scalar.indexCast v10
  ![0, v236.toNat]
def k0_off30 (i : grid0.Coords) : Fin 2 → Nat :=
  let c1_35 : Index := 1#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v244 : Index := Scalar.indexCast v10
  ![1, v244.toNat]
def k0_off31 (i : grid0.Coords) : Fin 2 → Nat :=
  let c2_38 : Index := 2#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v252 : Index := Scalar.indexCast v10
  ![2, v252.toNat]
def k0_off32 (i : grid0.Coords) : Fin 2 → Nat :=
  let c3_41 : Index := 3#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v260 : Index := Scalar.indexCast v10
  ![3, v260.toNat]
def k0_off33 (i : grid0.Coords) : Fin 2 → Nat :=
  let c4_44 : Index := 4#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v268 : Index := Scalar.indexCast v10
  ![4, v268.toNat]
def k0_off34 (i : grid0.Coords) : Fin 2 → Nat :=
  let c5_47 : Index := 5#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v276 : Index := Scalar.indexCast v10
  ![5, v276.toNat]
def k0_off35 (i : grid0.Coords) : Fin 2 → Nat :=
  let c6_50 : Index := 6#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v284 : Index := Scalar.indexCast v10
  ![6, v284.toNat]
def k0_off36 (i : grid0.Coords) : Fin 2 → Nat :=
  let c7_53 : Index := 7#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v292 : Index := Scalar.indexCast v10
  ![7, v292.toNat]
def k0_off37 (i : grid0.Coords) : Fin 2 → Nat :=
  let c8_56 : Index := 8#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v300 : Index := Scalar.indexCast v10
  ![8, v300.toNat]
def k0_off38 (i : grid0.Coords) : Fin 2 → Nat :=
  let c9_59 : Index := 9#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v308 : Index := Scalar.indexCast v10
  ![9, v308.toNat]
def k0_off39 (i : grid0.Coords) : Fin 2 → Nat :=
  let c10_62 : Index := 10#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v316 : Index := Scalar.indexCast v10
  ![10, v316.toNat]
def k0_off40 (i : grid0.Coords) : Fin 2 → Nat :=
  let c11_65 : Index := 11#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v324 : Index := Scalar.indexCast v10
  ![11, v324.toNat]
def k0_off41 (i : grid0.Coords) : Fin 2 → Nat :=
  let c12_68 : Index := 12#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v332 : Index := Scalar.indexCast v10
  ![12, v332.toNat]
def k0_off42 (i : grid0.Coords) : Fin 2 → Nat :=
  let c13_71 : Index := 13#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v340 : Index := Scalar.indexCast v10
  ![13, v340.toNat]
def k0_off43 (i : grid0.Coords) : Fin 2 → Nat :=
  let c14_74 : Index := 14#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v348 : Index := Scalar.indexCast v10
  ![14, v348.toNat]
def k0_off44 (i : grid0.Coords) : Fin 2 → Nat :=
  let c15_77 : Index := 15#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v356 : Index := Scalar.indexCast v10
  ![15, v356.toNat]
def k0_off45 (i : grid0.Coords) : Fin 2 → Nat :=
  let c16_80 : Index := 16#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v364 : Index := Scalar.indexCast v10
  ![16, v364.toNat]
def k0_off46 (i : grid0.Coords) : Fin 2 → Nat :=
  let c17_83 : Index := 17#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v372 : Index := Scalar.indexCast v10
  ![17, v372.toNat]
def k0_off47 (i : grid0.Coords) : Fin 2 → Nat :=
  let c18_86 : Index := 18#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v380 : Index := Scalar.indexCast v10
  ![18, v380.toNat]
def k0_off48 (i : grid0.Coords) : Fin 2 → Nat :=
  let c19_89 : Index := 19#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v388 : Index := Scalar.indexCast v10
  ![19, v388.toNat]
def k0_off49 (i : grid0.Coords) : Fin 2 → Nat :=
  let c20_92 : Index := 20#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v396 : Index := Scalar.indexCast v10
  ![20, v396.toNat]
def k0_off50 (i : grid0.Coords) : Fin 2 → Nat :=
  let c21_95 : Index := 21#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v404 : Index := Scalar.indexCast v10
  ![21, v404.toNat]
def k0_off51 (i : grid0.Coords) : Fin 2 → Nat :=
  let c22_98 : Index := 22#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v412 : Index := Scalar.indexCast v10
  ![22, v412.toNat]
def k0_off52 (i : grid0.Coords) : Fin 2 → Nat :=
  let c23_101 : Index := 23#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v420 : Index := Scalar.indexCast v10
  ![23, v420.toNat]
def k0_off53 (i : grid0.Coords) : Fin 2 → Nat :=
  let c24_104 : Index := 24#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v428 : Index := Scalar.indexCast v10
  ![24, v428.toNat]
def k0_off54 (i : grid0.Coords) : Fin 2 → Nat :=
  let c25_107 : Index := 25#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v436 : Index := Scalar.indexCast v10
  ![25, v436.toNat]
def k0_off55 (i : grid0.Coords) : Fin 2 → Nat :=
  let c26_110 : Index := 26#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v444 : Index := Scalar.indexCast v10
  ![26, v444.toNat]
def k0_off56 (i : grid0.Coords) : Fin 2 → Nat :=
  let c27_113 : Index := 27#32
  let arg1 : BitVec 32 := BitVec.ofNat 32 (i 1).val
  let c37_i32 : BitVec 32 := 37#32
  let v0 : BitVec 1 := Scalar.cmpi .slt arg1 c37_i32
  let c46_i32 : BitVec 32 := 46#32
  let v5 : BitVec 32 := Scalar.addi c46_i32 arg1
  let c2_i32_2 : BitVec 32 := 2#32
  let c37_i32_1 : BitVec 32 := 37#32
  let v6 : BitVec 32 := Scalar.subi arg1 c37_i32_1
  let v7 : BitVec 32 := Scalar.muli c2_i32_2 v6
  let c1_i32 : BitVec 32 := 1#32
  let v8 : BitVec 32 := Scalar.addi v7 c1_i32
  let v9 : BitVec 32 := Scalar.select v0 v5 v8
  let c82_i32 : BitVec 32 := 82#32
  let v10 : BitVec 32 := Scalar.minsi v9 c82_i32
  let v452 : Index := Scalar.indexCast v10
  ![27, v452.toNat]
def k0_cond2 (i : grid0.Coords) : BitVec 1 :=
  let arg1 : BitVec 32 := BitVec.ofNat 32 (i 1).val
  let c37_i32_119 : BitVec 32 := 37#32
  let v469 : BitVec 1 := Scalar.cmpi .sge arg1 c37_i32_119
  let v470 : BitVec 32 := Scalar.extui v469
  let c0_i32_120 : BitVec 32 := 0#32
  let v471 : BitVec 1 := Scalar.cmpi .ne v470 c0_i32_120
  v471

def k0_cond1 (i : grid0.Coords) : BitVec 1 :=
  let arg1 : BitVec 32 := BitVec.ofNat 32 (i 1).val
  let c37_i32_118 : BitVec 32 := 37#32
  let v466 : BitVec 1 := Scalar.cmpi .slt arg1 c37_i32_118
  let v467 : BitVec 32 := Scalar.extui v466
  let c0_i32 : BitVec 32 := 0#32
  let v468 : BitVec 1 := Scalar.cmpi .ne v467 c0_i32
  v468

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 1 := Scalar.cmpi .slt arg1 c37_i32
  let c9_i32 : BitVec 32 := 9#32
  let v1 : BitVec 32 := Scalar.addi c9_i32 arg1
  let c37_i32_0 : BitVec 32 := 37#32
  let v2 : BitVec 32 := Scalar.subi arg1 c37_i32_0
  let c2_i32 : BitVec 32 := 2#32
  let v3 : BitVec 32 := Scalar.muli c2_i32 v2
  let v4 : BitVec 32 := Scalar.select v0 v1 v3
  let c0_i32 : BitVec 32 := 0#32
  let c0_i32_1 : BitVec 32 := 0#32
  ![c0_i32.toNat, v4.toNat]

def cc0_transform_3 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 1 := Scalar.cmpi .slt arg1 c37_i32
  let c46_i32 : BitVec 32 := 46#32
  let v1 : BitVec 32 := Scalar.addi c46_i32 arg1
  let c37_i32_0 : BitVec 32 := 37#32
  let v2 : BitVec 32 := Scalar.subi arg1 c37_i32_0
  let c2_i32 : BitVec 32 := 2#32
  let v3 : BitVec 32 := Scalar.muli c2_i32 v2
  let c1_i32 : BitVec 32 := 1#32
  let v4 : BitVec 32 := Scalar.addi v3 c1_i32
  let v5 : BitVec 32 := Scalar.select v0 v1 v4
  let c82_i32 : BitVec 32 := 82#32
  let v6 : BitVec 32 := Scalar.minsi v5 c82_i32
  let c0_i32 : BitVec 32 := 0#32
  let c0_i32_1 : BitVec 32 := 0#32
  ![c0_i32.toNat, v6.toNat]

def cc0_transform_4 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.subi arg1 c37_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.minsi arg1 c36_i32
  let c0_i32 : BitVec 32 := 0#32
  ![arg0.toNat, v0.toNat]

abbrev stage0_0 : Fin 1 → Memref sig .tc .smem S28x83 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3584x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x37 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== InProjRefIdeal.lean ====
abbrev S28x83 : Shape := ⟨2, ![28, 83]⟩
abbrev S8192x3584 : Shape := ⟨2, ![8192, 3584]⟩
abbrev S3584x10624 : Shape := ⟨2, ![3584, 10624]⟩
abbrev S8192x1280 : Shape := ⟨2, ![8192, 1280]⟩
abbrev S8192x4736 : Shape := ⟨2, ![8192, 4736]⟩
abbrev S8192x37 : Shape := ⟨2, ![8192, 37]⟩
abbrev S28x128x83x128 : Shape := ⟨4, ![28, 128, 83, 128]⟩
abbrev S28x1x83x1 : Shape := ⟨4, ![28, 1, 83, 1]⟩
abbrev S8192x10624 : Shape := ⟨2, ![8192, 10624]⟩
abbrev S8192x37x128 : Shape := ⟨3, ![8192, 37, 128]⟩
abbrev S8192x37x254 : Shape := ⟨3, ![8192, 37, 254]⟩
abbrev S8192x37x1 : Shape := ⟨3, ![8192, 37, 1]⟩

abbrev nBuf : Space → Nat
  | .hbm => 7
  | .vmem => 7
  | .smem => 0
  | _ => 0

abbrev bufTy : (tb : Table) → Fin (tcTables nBuf tb) → BufTy
  | .hbm, ⟨0, _⟩ => ⟨S28x83, .f32⟩
  | .hbm, ⟨1, _⟩ => ⟨S8192x3584, .bf16⟩
  | .hbm, ⟨2, _⟩ => ⟨S3584x10624, .fp8e4m3⟩
  | .hbm, ⟨3, _⟩ => ⟨S8192x1280, .bf16⟩
  | .hbm, ⟨4, _⟩ => ⟨S8192x4736, .fp8e4m3⟩
  | .hbm, ⟨5, _⟩ => ⟨S8192x37, .f32⟩
  | .hbm, ⟨6, _⟩ => ⟨S8192x4736, .bf16⟩
  | .local _ .vmem, ⟨0, _⟩ => ⟨S28x83, .f32⟩
  | .local _ .vmem, ⟨1, _⟩ => ⟨S8192x3584, .bf16⟩
  | .local _ .vmem, ⟨2, _⟩ => ⟨S3584x10624, .fp8e4m3⟩
  | .local _ .vmem, ⟨3, _⟩ => ⟨S8192x1280, .bf16⟩
  | .local _ .vmem, ⟨4, _⟩ => ⟨S8192x4736, .fp8e4m3⟩
  | .local _ .vmem, ⟨5, _⟩ => ⟨S8192x37, .f32⟩
  | .local _ .vmem, ⟨6, _⟩ => ⟨S8192x4736, .bf16⟩
  | _, _ => ⟨S28x83, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S28x83 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x10624 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x4736 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x37 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x4736 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Down.lean ====
abbrev S37x28 : Shape := ⟨2, ![37, 28]⟩
abbrev S8192x4736 : Shape := ⟨2, ![8192, 4736]⟩
abbrev S4736x3584 : Shape := ⟨2, ![4736, 3584]⟩
abbrev S4x2048x3584 : Shape := ⟨3, ![4, 2048, 3584]⟩
abbrev S8192x3584 : Shape := ⟨2, ![8192, 3584]⟩
abbrev S1024x4736 : Shape := ⟨2, ![1024, 4736]⟩
abbrev S4736x256 : Shape := ⟨2, ![4736, 256]⟩
abbrev S1024x256 : Shape := ⟨2, ![1024, 256]⟩
abbrev S1x1 : Shape := ⟨2, ![1, 1]⟩
abbrev S4736x128 : Shape := ⟨2, ![4736, 128]⟩
abbrev S128x128 : Shape := ⟨2, ![128, 128]⟩

abbrev nBuf : Space → Nat
  | .hbm => 6
  | .vmem => 8
  | .smem => 1
  | _ => 0

abbrev bufTy : (tb : Table) → Fin (tcTables nBuf tb) → BufTy
  | .hbm, ⟨0, _⟩ => ⟨S37x28, .f32⟩
  | .hbm, ⟨1, _⟩ => ⟨S8192x4736, .bf16⟩
  | .hbm, ⟨2, _⟩ => ⟨S4736x3584, .fp8e4m3⟩
  | .hbm, ⟨3, _⟩ => ⟨S4x2048x3584, .bf16⟩
  | .hbm, ⟨4, _⟩ => ⟨S8192x3584, .bf16⟩
  | .hbm, ⟨5, _⟩ => ⟨S8192x3584, .bf16⟩
  | .local _ .vmem, ⟨0, _⟩ => ⟨S1024x4736, .bf16⟩
  | .local _ .vmem, ⟨1, _⟩ => ⟨S1024x4736, .bf16⟩
  | .local _ .vmem, ⟨2, _⟩ => ⟨S4736x256, .fp8e4m3⟩
  | .local _ .vmem, ⟨3, _⟩ => ⟨S4736x256, .fp8e4m3⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .smem, ⟨0, _⟩ => ⟨S37x28, .f32⟩
  | _, _ => ⟨S37x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 14], ![false, false]⟩

def k0_off1 (i : grid0.Coords) : Fin 2 → Nat :=
  let c0 : Index := 0#32
  let c2_i32 : BitVec 32 := 2#32
  let arg1 : BitVec 32 := BitVec.ofNat 32 (i 1).val
  let v0 : BitVec 32 := Scalar.muli c2_i32 arg1
  let v1 : Index := Scalar.indexCast v0
  ![0, v1.toNat]
def k0_off2 (i : grid0.Coords) : Fin 2 → Nat :=
  let c1 : Index := 1#32
  let c2_i32 : BitVec 32 := 2#32
  let arg1 : BitVec 32 := BitVec.ofNat 32 (i 1).val
  let v0 : BitVec 32 := Scalar.muli c2_i32 arg1
  let v10 : Index := Scalar.indexCast v0
  ![1, v10.toNat]
def k0_off3 (i : grid0.Coords) : Fin 2 → Nat :=
  let c2 : Index := 2#32
  let c2_i32 : BitVec 32 := 2#32
  let arg1 : BitVec 32 := BitVec.ofNat 32 (i 1).val
  let v0 : BitVec 32 := Scalar.muli c2_i32 arg1
  let v19 : Index := Scalar.indexCast v0
  ![2, v19.toNat]
def k0_off4 (i : grid0.Coords) : Fin 2 → Nat :=
  let c3 : Index := 3#32
  let c2_i32 : BitVec 32 := 2#32
  let arg1 : BitVec 32 := BitVec.ofNat 32 (i 1).val
  let v0 : BitVec 32 := Scalar.muli c2_i32 arg1
  let v28 : Index := Scalar.indexCast v0
  ![3, v28.toNat]
def k0_off5 (i : grid0.Coords) : Fin 2 → Nat :=
  let c4 : Index := 4#32
  let c2_i32 : BitVec 32 := 2#32
  let arg1 : BitVec 32 := BitVec.ofNat 32 (i 1).val
  let v0 : BitVec 32 := Scalar.muli c2_i32 arg1
  let v37 : Index := Scalar.indexCast v0
  ![4, v37.toNat]
def k0_off6 (i : grid0.Coords) : Fin 2 → Nat :=
  let c5 : Index := 5#32
  let c2_i32 : BitVec 32 := 2#32
  let arg1 : BitVec 32 := BitVec.ofNat 32 (i 1).val
  let v0 : BitVec 32 := Scalar.muli c2_i32 arg1
  let v46 : Index := Scalar.indexCast v0
  ![5, v46.toNat]
def k0_off7 (i : grid0.Coords) : Fin 2 → Nat :=
  let c6 : Index := 6#32
  let c2_i32 : BitVec 32 := 2#32
  let arg1 : BitVec 32 := BitVec.ofNat 32 (i 1).val
  let v0 : BitVec 32 := Scalar.muli c2_i32 arg1
  let v55 : Index := Scalar.indexCast v0
  ![6, v55.toNat]
def k0_off8 (i : grid0.Coords) : Fin 2 → Nat :=
  let c7 : Index := 7#32
  let c2_i32 : BitVec 32 := 2#32
  let arg1 : BitVec 32 := BitVec.ofNat 32 (i 1).val
  let v0 : BitVec 32 := Scalar.muli c2_i32 arg1
  let v64 : Index := Scalar.indexCast v0
  ![7, v64.toNat]
def k0_off9 (i : grid0.Coords) : Fin 2 → Nat :=
  let c8 : Index := 8#32
  let c2_i32 : BitVec 32 := 2#32
  let arg1 : BitVec 32 := BitVec.ofNat 32 (i 1).val
  let v0 : BitVec 32 := Scalar.muli c2_i32 arg1
  let v73 : Index := Scalar.indexCast v0
  ![8, v73.toNat]
def k0_off10 (i : grid0.Coords) : Fin 2 → Nat :=
  let c9 : Index := 9#32
  let c2_i32 : BitVec 32 := 2#32
  let arg1 : BitVec 32 := BitVec.ofNat 32 (i 1).val
  let v0 : BitVec 32 := Scalar.muli c2_i32 arg1
  let v82 : Index := Scalar.indexCast v0
  ![9, v82.toNat]
def k0_off11 (i : grid0.Coords) : Fin 2 → Nat :=
  let c10 : Index := 10#32
  let c2_i32 : BitVec 32 := 2#32
  let arg1 : BitVec 32 := BitVec.ofNat 32 (i 1).val
  let v0 : BitVec 32 := Scalar.muli c2_i32 arg1
  let v91 : Index := Scalar.indexCast v0
  ![10, v91.toNat]
def k0_off12 (i : grid0.Coords) : Fin 2 → Nat :=
  let c11 : Index := 11#32
  let c2_i32 : BitVec 32 := 2#32
  let arg1 : BitVec 32 := BitVec.ofNat 32 (i 1).val
  let v0 : BitVec 32 := Scalar.muli c2_i32 arg1
  let v100 : Index := Scalar.indexCast v0
  ![11, v100.toNat]
def k0_off13 (i : grid0.Coords) : Fin 2 → Nat :=
  let c12 : Index := 12#32
  let c2_i32 : BitVec 32 := 2#32
  let arg1 : BitVec 32 := BitVec.ofNat 32 (i 1).val
  let v0 : BitVec 32 := Scalar.muli c2_i32 arg1
  let v109 : Index := Scalar.indexCast v0
  ![12, v109.toNat]
def k0_off14 (i : grid0.Coords) : Fin 2 → Nat :=
  let c13 : Index := 13#32
  let c2_i32 : BitVec 32 := 2#32
  let arg1 : BitVec 32 := BitVec.ofNat 32 (i 1).val
  let v0 : BitVec 32 := Scalar.muli c2_i32 arg1
  let v118 : Index := Scalar.indexCast v0
  ![13, v118.toNat]
def k0_off15 (i : grid0.Coords) : Fin 2 → Nat :=
  let c14 : Index := 14#32
  let c2_i32 : BitVec 32 := 2#32
  let arg1 : BitVec 32 := BitVec.ofNat 32 (i 1).val
  let v0 : BitVec 32 := Scalar.muli c2_i32 arg1
  let v127 : Index := Scalar.indexCast v0
  ![14, v127.toNat]
def k0_off16 (i : grid0.Coords) : Fin 2 → Nat :=
  let c15 : Index := 15#32
  let c2_i32 : BitVec 32 := 2#32
  let arg1 : BitVec 32 := BitVec.ofNat 32 (i 1).val
  let v0 : BitVec 32 := Scalar.muli c2_i32 arg1
  let v136 : Index := Scalar.indexCast v0
  ![15, v136.toNat]
def k0_off17 (i : grid0.Coords) : Fin 2 → Nat :=
  let c16 : Index := 16#32
  let c2_i32 : BitVec 32 := 2#32
  let arg1 : BitVec 32 := BitVec.ofNat 32 (i 1).val
  let v0 : BitVec 32 := Scalar.muli c2_i32 arg1
  let v145 : Index := Scalar.indexCast v0
  ![16, v145.toNat]
def k0_off18 (i : grid0.Coords) : Fin 2 → Nat :=
  let c17 : Index := 17#32
  let c2_i32 : BitVec 32 := 2#32
  let arg1 : BitVec 32 := BitVec.ofNat 32 (i 1).val
  let v0 : BitVec 32 := Scalar.muli c2_i32 arg1
  let v154 : Index := Scalar.indexCast v0
  ![17, v154.toNat]
def k0_off19 (i : grid0.Coords) : Fin 2 → Nat :=
  let c18 : Index := 18#32
  let c2_i32 : BitVec 32 := 2#32
  let arg1 : BitVec 32 := BitVec.ofNat 32 (i 1).val
  let v0 : BitVec 32 := Scalar.muli c2_i32 arg1
  let v163 : Index := Scalar.indexCast v0
  ![18, v163.toNat]
def k0_off20 (i : grid0.Coords) : Fin 2 → Nat :=
  let c19 : Index := 19#32
  let c2_i32 : BitVec 32 := 2#32
  let arg1 : BitVec 32 := BitVec.ofNat 32 (i 1).val
  let v0 : BitVec 32 := Scalar.muli c2_i32 arg1
  let v172 : Index := Scalar.indexCast v0
  ![19, v172.toNat]
def k0_off21 (i : grid0.Coords) : Fin 2 → Nat :=
  let c20 : Index := 20#32
  let c2_i32 : BitVec 32 := 2#32
  let arg1 : BitVec 32 := BitVec.ofNat 32 (i 1).val
  let v0 : BitVec 32 := Scalar.muli c2_i32 arg1
  let v181 : Index := Scalar.indexCast v0
  ![20, v181.toNat]
def k0_off22 (i : grid0.Coords) : Fin 2 → Nat :=
  let c21 : Index := 21#32
  let c2_i32 : BitVec 32 := 2#32
  let arg1 : BitVec 32 := BitVec.ofNat 32 (i 1).val
  let v0 : BitVec 32 := Scalar.muli c2_i32 arg1
  let v190 : Index := Scalar.indexCast v0
  ![21, v190.toNat]
def k0_off23 (i : grid0.Coords) : Fin 2 → Nat :=
  let c22 : Index := 22#32
  let c2_i32 : BitVec 32 := 2#32
  let arg1 : BitVec 32 := BitVec.ofNat 32 (i 1).val
  let v0 : BitVec 32 := Scalar.muli c2_i32 arg1
  let v199 : Index := Scalar.indexCast v0
  ![22, v199.toNat]
def k0_off24 (i : grid0.Coords) : Fin 2 → Nat :=
  let c23 : Index := 23#32
  let c2_i32 : BitVec 32 := 2#32
  let arg1 : BitVec 32 := BitVec.ofNat 32 (i 1).val
  let v0 : BitVec 32 := Scalar.muli c2_i32 arg1
  let v208 : Index := Scalar.indexCast v0
  ![23, v208.toNat]
def k0_off25 (i : grid0.Coords) : Fin 2 → Nat :=
  let c24 : Index := 24#32
  let c2_i32 : BitVec 32 := 2#32
  let arg1 : BitVec 32 := BitVec.ofNat 32 (i 1).val
  let v0 : BitVec 32 := Scalar.muli c2_i32 arg1
  let v217 : Index := Scalar.indexCast v0
  ![24, v217.toNat]
def k0_off26 (i : grid0.Coords) : Fin 2 → Nat :=
  let c25 : Index := 25#32
  let c2_i32 : BitVec 32 := 2#32
  let arg1 : BitVec 32 := BitVec.ofNat 32 (i 1).val
  let v0 : BitVec 32 := Scalar.muli c2_i32 arg1
  let v226 : Index := Scalar.indexCast v0
  ![25, v226.toNat]
def k0_off27 (i : grid0.Coords) : Fin 2 → Nat :=
  let c26 : Index := 26#32
  let c2_i32 : BitVec 32 := 2#32
  let arg1 : BitVec 32 := BitVec.ofNat 32 (i 1).val
  let v0 : BitVec 32 := Scalar.muli c2_i32 arg1
  let v235 : Index := Scalar.indexCast v0
  ![26, v235.toNat]
def k0_off28 (i : grid0.Coords) : Fin 2 → Nat :=
  let c27 : Index := 27#32
  let c2_i32 : BitVec 32 := 2#32
  let arg1 : BitVec 32 := BitVec.ofNat 32 (i 1).val
  let v0 : BitVec 32 := Scalar.muli c2_i32 arg1
  let v244 : Index := Scalar.indexCast v0
  ![27, v244.toNat]
def k0_off29 (i : grid0.Coords) : Fin 2 → Nat :=
  let c28 : Index := 28#32
  let c2_i32 : BitVec 32 := 2#32
  let arg1 : BitVec 32 := BitVec.ofNat 32 (i 1).val
  let v0 : BitVec 32 := Scalar.muli c2_i32 arg1
  let v253 : Index := Scalar.indexCast v0
  ![28, v253.toNat]
def k0_off30 (i : grid0.Coords) : Fin 2 → Nat :=
  let c29 : Index := 29#32
  let c2_i32 : BitVec 32 := 2#32
  let arg1 : BitVec 32 := BitVec.ofNat 32 (i 1).val
  let v0 : BitVec 32 := Scalar.muli c2_i32 arg1
  let v262 : Index := Scalar.indexCast v0
  ![29, v262.toNat]
def k0_off31 (i : grid0.Coords) : Fin 2 → Nat :=
  let c30 : Index := 30#32
  let c2_i32 : BitVec 32 := 2#32
  let arg1 : BitVec 32 := BitVec.ofNat 32 (i 1).val
  let v0 : BitVec 32 := Scalar.muli c2_i32 arg1
  let v271 : Index := Scalar.indexCast v0
  ![30, v271.toNat]
def k0_off32 (i : grid0.Coords) : Fin 2 → Nat :=
  let c31 : Index := 31#32
  let c2_i32 : BitVec 32 := 2#32
  let arg1 : BitVec 32 := BitVec.ofNat 32 (i 1).val
  let v0 : BitVec 32 := Scalar.muli c2_i32 arg1
  let v280 : Index := Scalar.indexCast v0
  ![31, v280.toNat]
def k0_off33 (i : grid0.Coords) : Fin 2 → Nat :=
  let c32 : Index := 32#32
  let c2_i32 : BitVec 32 := 2#32
  let arg1 : BitVec 32 := BitVec.ofNat 32 (i 1).val
  let v0 : BitVec 32 := Scalar.muli c2_i32 arg1
  let v289 : Index := Scalar.indexCast v0
  ![32, v289.toNat]
def k0_off34 (i : grid0.Coords) : Fin 2 → Nat :=
  let c33 : Index := 33#32
  let c2_i32 : BitVec 32 := 2#32
  let arg1 : BitVec 32 := BitVec.ofNat 32 (i 1).val
  let v0 : BitVec 32 := Scalar.muli c2_i32 arg1
  let v298 : Index := Scalar.indexCast v0
  ![33, v298.toNat]
def k0_off35 (i : grid0.Coords) : Fin 2 → Nat :=
  let c34 : Index := 34#32
  let c2_i32 : BitVec 32 := 2#32
  let arg1 : BitVec 32 := BitVec.ofNat 32 (i 1).val
  let v0 : BitVec 32 := Scalar.muli c2_i32 arg1
  let v307 : Index := Scalar.indexCast v0
  ![34, v307.toNat]
def k0_off36 (i : grid0.Coords) : Fin 2 → Nat :=
  let c35 : Index := 35#32
  let c2_i32 : BitVec 32 := 2#32
  let arg1 : BitVec 32 := BitVec.ofNat 32 (i 1).val
  let v0 : BitVec 32 := Scalar.muli c2_i32 arg1
  let v316 : Index := Scalar.indexCast v0
  ![35, v316.toNat]
def k0_off37 (i : grid0.Coords) : Fin 2 → Nat :=
  let c36 : Index := 36#32
  let c2_i32 : BitVec 32 := 2#32
  let arg1 : BitVec 32 := BitVec.ofNat 32 (i 1).val
  let v0 : BitVec 32 := Scalar.muli c2_i32 arg1
  let v325 : Index := Scalar.indexCast v0
  ![36, v325.toNat]
def k0_off38 (i : grid0.Coords) : Fin 2 → Nat :=
  let c0_112 : Index := 0#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v337 : Index := Scalar.indexCast v336
  ![0, v337.toNat]
def k0_off39 (i : grid0.Coords) : Fin 2 → Nat :=
  let c1_116 : Index := 1#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v346 : Index := Scalar.indexCast v336
  ![1, v346.toNat]
def k0_off40 (i : grid0.Coords) : Fin 2 → Nat :=
  let c2_121 : Index := 2#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v355 : Index := Scalar.indexCast v336
  ![2, v355.toNat]
def k0_off41 (i : grid0.Coords) : Fin 2 → Nat :=
  let c3_126 : Index := 3#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v364 : Index := Scalar.indexCast v336
  ![3, v364.toNat]
def k0_off42 (i : grid0.Coords) : Fin 2 → Nat :=
  let c4_131 : Index := 4#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v373 : Index := Scalar.indexCast v336
  ![4, v373.toNat]
def k0_off43 (i : grid0.Coords) : Fin 2 → Nat :=
  let c5_136 : Index := 5#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v382 : Index := Scalar.indexCast v336
  ![5, v382.toNat]
def k0_off44 (i : grid0.Coords) : Fin 2 → Nat :=
  let c6_141 : Index := 6#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v391 : Index := Scalar.indexCast v336
  ![6, v391.toNat]
def k0_off45 (i : grid0.Coords) : Fin 2 → Nat :=
  let c7_146 : Index := 7#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v400 : Index := Scalar.indexCast v336
  ![7, v400.toNat]
def k0_off46 (i : grid0.Coords) : Fin 2 → Nat :=
  let c8_151 : Index := 8#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v409 : Index := Scalar.indexCast v336
  ![8, v409.toNat]
def k0_off47 (i : grid0.Coords) : Fin 2 → Nat :=
  let c9_156 : Index := 9#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v418 : Index := Scalar.indexCast v336
  ![9, v418.toNat]
def k0_off48 (i : grid0.Coords) : Fin 2 → Nat :=
  let c10_161 : Index := 10#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v427 : Index := Scalar.indexCast v336
  ![10, v427.toNat]
def k0_off49 (i : grid0.Coords) : Fin 2 → Nat :=
  let c11_166 : Index := 11#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v436 : Index := Scalar.indexCast v336
  ![11, v436.toNat]
def k0_off50 (i : grid0.Coords) : Fin 2 → Nat :=
  let c12_171 : Index := 12#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v445 : Index := Scalar.indexCast v336
  ![12, v445.toNat]
def k0_off51 (i : grid0.Coords) : Fin 2 → Nat :=
  let c13_176 : Index := 13#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v454 : Index := Scalar.indexCast v336
  ![13, v454.toNat]
def k0_off52 (i : grid0.Coords) : Fin 2 → Nat :=
  let c14_181 : Index := 14#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v463 : Index := Scalar.indexCast v336
  ![14, v463.toNat]
def k0_off53 (i : grid0.Coords) : Fin 2 → Nat :=
  let c15_186 : Index := 15#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v472 : Index := Scalar.indexCast v336
  ![15, v472.toNat]
def k0_off54 (i : grid0.Coords) : Fin 2 → Nat :=
  let c16_191 : Index := 16#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v481 : Index := Scalar.indexCast v336
  ![16, v481.toNat]
def k0_off55 (i : grid0.Coords) : Fin 2 → Nat :=
  let c17_196 : Index := 17#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v490 : Index := Scalar.indexCast v336
  ![17, v490.toNat]
def k0_off56 (i : grid0.Coords) : Fin 2 → Nat :=
  let c18_201 : Index := 18#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v499 : Index := Scalar.indexCast v336
  ![18, v499.toNat]
def k0_off57 (i : grid0.Coords) : Fin 2 → Nat :=
  let c19_206 : Index := 19#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v508 : Index := Scalar.indexCast v336
  ![19, v508.toNat]
def k0_off58 (i : grid0.Coords) : Fin 2 → Nat :=
  let c20_211 : Index := 20#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v517 : Index := Scalar.indexCast v336
  ![20, v517.toNat]
def k0_off59 (i : grid0.Coords) : Fin 2 → Nat :=
  let c21_216 : Index := 21#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v526 : Index := Scalar.indexCast v336
  ![21, v526.toNat]
def k0_off60 (i : grid0.Coords) : Fin 2 → Nat :=
  let c22_221 : Index := 22#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v535 : Index := Scalar.indexCast v336
  ![22, v535.toNat]
def k0_off61 (i : grid0.Coords) : Fin 2 → Nat :=
  let c23_226 : Index := 23#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v544 : Index := Scalar.indexCast v336
  ![23, v544.toNat]
def k0_off62 (i : grid0.Coords) : Fin 2 → Nat :=
  let c24_231 : Index := 24#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v553 : Index := Scalar.indexCast v336
  ![24, v553.toNat]
def k0_off63 (i : grid0.Coords) : Fin 2 → Nat :=
  let c25_236 : Index := 25#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v562 : Index := Scalar.indexCast v336
  ![25, v562.toNat]
def k0_off64 (i : grid0.Coords) : Fin 2 → Nat :=
  let c26_241 : Index := 26#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v571 : Index := Scalar.indexCast v336
  ![26, v571.toNat]
def k0_off65 (i : grid0.Coords) : Fin 2 → Nat :=
  let c27_246 : Index := 27#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v580 : Index := Scalar.indexCast v336
  ![27, v580.toNat]
def k0_off66 (i : grid0.Coords) : Fin 2 → Nat :=
  let c28_251 : Index := 28#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v589 : Index := Scalar.indexCast v336
  ![28, v589.toNat]
def k0_off67 (i : grid0.Coords) : Fin 2 → Nat :=
  let c29_256 : Index := 29#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v598 : Index := Scalar.indexCast v336
  ![29, v598.toNat]
def k0_off68 (i : grid0.Coords) : Fin 2 → Nat :=
  let c30_261 : Index := 30#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v607 : Index := Scalar.indexCast v336
  ![30, v607.toNat]
def k0_off69 (i : grid0.Coords) : Fin 2 → Nat :=
  let c31_266 : Index := 31#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v616 : Index := Scalar.indexCast v336
  ![31, v616.toNat]
def k0_off70 (i : grid0.Coords) : Fin 2 → Nat :=
  let c32_271 : Index := 32#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v625 : Index := Scalar.indexCast v336
  ![32, v625.toNat]
def k0_off71 (i : grid0.Coords) : Fin 2 → Nat :=
  let c33_276 : Index := 33#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v634 : Index := Scalar.indexCast v336
  ![33, v634.toNat]
def k0_off72 (i : grid0.Coords) : Fin 2 → Nat :=
  let c34_281 : Index := 34#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v643 : Index := Scalar.indexCast v336
  ![34, v643.toNat]
def k0_off73 (i : grid0.Coords) : Fin 2 → Nat :=
  let c35_286 : Index := 35#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v652 : Index := Scalar.indexCast v336
  ![35, v652.toNat]
def k0_off74 (i : grid0.Coords) : Fin 2 → Nat :=
  let c36_291 : Index := 36#32
  let c2_i32_111 : BitVec 32 := 2#32
  let arg1 : BitVec 32 := BitVec.ofNat 32 (i 1).val
  let v335 : BitVec 32 := Scalar.muli c2_i32_111 arg1
  let c1_i32 : BitVec 32 := 1#32
  let v336 : BitVec 32 := Scalar.addi v335 c1_i32
  let v661 : Index := Scalar.indexCast v336
  ![36, v661.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S37x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x4736 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4736x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S37x28 : Shape := ⟨2, ![37, 28]⟩
abbrev S8192x4736 : Shape := ⟨2, ![8192, 4736]⟩
abbrev S4736x3584 : Shape := ⟨2, ![4736, 3584]⟩
abbrev S4x2048x3584 : Shape := ⟨3, ![4, 2048, 3584]⟩
abbrev S8192x3584 : Shape := ⟨2, ![8192, 3584]⟩
abbrev S37x128x28x128 : Shape := ⟨4, ![37, 128, 28, 128]⟩
abbrev S37x1x28x1 : Shape := ⟨4, ![37, 1, 28, 1]⟩

abbrev nBuf : Space → Nat
  | .hbm => 6
  | .vmem => 5
  | .smem => 0
  | _ => 0

abbrev bufTy : (tb : Table) → Fin (tcTables nBuf tb) → BufTy
  | .hbm, ⟨0, _⟩ => ⟨S37x28, .f32⟩
  | .hbm, ⟨1, _⟩ => ⟨S8192x4736, .bf16⟩
  | .hbm, ⟨2, _⟩ => ⟨S4736x3584, .fp8e4m3⟩
  | .hbm, ⟨3, _⟩ => ⟨S4x2048x3584, .bf16⟩
  | .hbm, ⟨4, _⟩ => ⟨S8192x3584, .bf16⟩
  | .hbm, ⟨5, _⟩ => ⟨S8192x3584, .bf16⟩
  | .local _ .vmem, ⟨0, _⟩ => ⟨S37x28, .f32⟩
  | .local _ .vmem, ⟨1, _⟩ => ⟨S8192x4736, .bf16⟩
  | .local _ .vmem, ⟨2, _⟩ => ⟨S4736x3584, .fp8e4m3⟩
  | .local _ .vmem, ⟨3, _⟩ => ⟨S8192x3584, .bf16⟩
  | .local _ .vmem, ⟨4, _⟩ => ⟨S8192x3584, .bf16⟩
  | _, _ => ⟨S37x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S37x28 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x4736 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4736x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x3584 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Concat.lean ====
/- A vector put together from pieces of one shape along an axis, read at an index: the piece the axis coordinate
   names, at the remainder. The pieces are given as a literal list, each proved equal to a member of one family. -/
module

public import Idealize.ShloMosaic.Lib.Pipeline.ValueKit
public import Idealize.ShloMosaic.Lib.Pointwise
public import Idealize.ShloMosaic.Lib.WholeRead
public import Idealize.ShloMosaic.Lib.ValueIdx

@[expose] public section

noncomputable section

namespace Cert.Blocks

open Idealize.ShloMosaic

variable {α : Type}

/-- The pieces of a list are the members `n`, `n + 1`, … of the family `G`. -/
def Are {s₁ : Shape} (G : ℕ → s₁.Idx → α) : ℕ → List ((s : Shape) × (s.Idx → α)) → Prop
  | _, [] => True
  | n, p :: ps => (∃ x, p = ⟨s₁, x⟩ ∧ ∀ i, x i = G n i) ∧ Are G (n + 1) ps

/-- Such a list is the family's first members in order. -/
theorem Are.eq_ofFn {s₁ : Shape} {G : ℕ → s₁.Idx → α} : ∀ {n : ℕ} {xs : List ((s : Shape) × (s.Idx → α))},
    Are G n xs → ∃ N : ℕ, xs = List.ofFn fun k : Fin N => (⟨s₁, G (n + k)⟩ : (s : Shape) × (s.Idx → α))
  | _, [], _ => ⟨0, rfl⟩
  | n, p :: ps, h => by
    obtain ⟨⟨x, rfl, hx⟩, h2⟩ := h
    obtain ⟨N, rfl⟩ := Are.eq_ofFn h2
    refine ⟨N + 1, ?_⟩
    rw [List.ofFn_succ]
    obtain rfl : x = G n := funext hx
    simp [Nat.add_assoc, Nat.add_comm 1]

/-- The concatenation of such pieces, each `K` long along axis `a`: at `j`, member `j a / K` of the family at the index
    with `j`'s other coordinates and the remainder on the axis. -/
theorem concat_eq {t s₁ : Shape} (a : Fin t.rank) (xs : List ((s : Shape) × (s.Idx → α))) {G : ℕ → s₁.Idx → α}
    (hG : Are G 0 xs) (h : Shape.Concatenates (xs.map (·.1)) t a) (hr : s₁.rank = t.rank) (K : ℕ)
    (hK : s₁.size (a.cast hr.symm) = K) (j : t.Idx) (i : s₁.Idx) (hia : (i (a.cast hr.symm)).val = (j a).val % K)
    (hi : ∀ b : Fin s₁.rank, b.cast hr ≠ a → (i b).val = (j (b.cast hr)).val) :
    concatenate t a xs h j = G ((j a).val / K) i := by
  obtain ⟨N, rfl⟩ := hG.eq_ofFn
  have hs : t.size a = K * N := by
    rw [← h.2.2]
    simp only [List.map_ofFn, Function.comp_def, dif_pos hr, hK, List.sum_ofFn, Finset.sum_const, Finset.card_univ,
      Fintype.card_fin, smul_eq_mul]
    exact Nat.mul_comm _ _
  have hN : (j a).val / K < N := Nat.div_lt_of_lt_mul (lt_of_lt_of_eq (j a).isLt hs)
  rw [concatenate_ofFn_apply a _ h hr K hK j ⟨_, hN⟩ rfl i hia hi]
  simp

/-- A product of equal factors. -/
theorem mul_eq {a b a' b' : EReal} (ha : a = a') (hb : b = b') : a * b = a' * b' := by rw [ha, hb]

variable {sig : RefSig} {κ : Kind} {sp : Space} {Val : EltTy → Type} {e : EltTy} {M N : ℕ} [NeZero M] [NeZero N]

/-- A load of a rectangle at `(r₀, c₀)` through the window of a whole matrix at `(r₁, c₁)`: the matrix at the sum of the
    offsets and the index. -/
theorem ld_within {m : Memref sig κ sp ⟨2, ![M, N]⟩ e} (hm : m.IsWhole) (X : (⟨2, ![M, N]⟩ : Shape).Idx → Val e)
    {K L A B r₀ c₀ r₁ c₁ : ℕ} (p q pf) (y : (⟨2, ![A, B]⟩ : Shape).Idx)
    (hr : r₁ + (r₀ + A) ≤ M) (hc : c₁ + (c₀ + B) ≤ N) :
    View.readAt Val m.view
        ((Rect.unit (s := ⟨2, ![M, N]⟩) ![r₁, c₁] ![K, L] p).withinL
          (Rect.unit (s := ⟨2, ![K, L]⟩) ![r₀, c₀] ![A, B] q).toLoadRect pf)
        (hm.unread X) y
      = X (ix2 (Fin.ofNat M (r₁ + r₀ + (y 0).val)) (Fin.ofNat N (c₁ + c₀ + (y 1).val))) := by
  refine (hm.readAt_unread X _ _).trans (congrArg X (funext fun a => Fin.ext ?_))
  have h0 : (y 0).val < A := (y 0).isLt
  have h1 : (y 1).val < B := (y 1).isLt
  match a with
  | ⟨0, _⟩ =>
    show r₁ + r₀ + 1 * (y 0).val = (r₁ + r₀ + (y 0).val) % M
    rw [Nat.mod_eq_of_lt] <;> omega
  | ⟨1, _⟩ =>
    show c₁ + c₀ + 1 * (y 1).val = (c₁ + c₀ + (y 1).val) % N
    rw [Nat.mod_eq_of_lt] <;> omega

/-- A load of a rectangle at `(r, c)` of a whole matrix: the matrix at the sum of the offsets and the index. -/
theorem ld_piece {m : Memref sig κ sp ⟨2, ![M, N]⟩ e} (hm : m.IsWhole) (X : (⟨2, ![M, N]⟩ : Shape).Idx → Val e)
    {A B r c : ℕ} (p) (y : (⟨2, ![A, B]⟩ : Shape).Idx) (hr : r + A ≤ M) (hc : c + B ≤ N) :
    View.readAt Val m.view (Rect.unit (s := ⟨2, ![M, N]⟩) ![r, c] ![A, B] p).toLoadRect (hm.unread X) y
      = X (ix2 (Fin.ofNat M (r + (y 0).val)) (Fin.ofNat N (c + (y 1).val))) := by
  refine (hm.readAt_unread X _ _).trans (congrArg X (funext fun a => Fin.ext ?_))
  have h0 : (y 0).val < A := (y 0).isLt
  have h1 : (y 1).val < B := (y 1).isLt
  match a with
  | ⟨0, _⟩ =>
    show r + 1 * (y 0).val = (r + (y 0).val) % M
    rw [Nat.mod_eq_of_lt] <;> omega
  | ⟨1, _⟩ =>
    show c + 1 * (y 1).val = (c + (y 1).val) % N
    rw [Nat.mod_eq_of_lt] <;> omega

/-- A load of one element of a whole matrix. -/
theorem ld_one {m : Memref sig κ sp ⟨2, ![M, N]⟩ e} (hm : m.IsWhole) (X : (⟨2, ![M, N]⟩ : Shape).Idx → Val e)
    {off : Fin 2 → ℕ} {r c : ℕ} (ho : off = ![r, c]) (hr : r < M) (hc : c < N) (p)
    (y : (⟨2, ![1, 1]⟩ : Shape).Idx) :
    View.readAt Val m.view (Rect.unit (s := ⟨2, ![M, N]⟩) off (⟨2, ![1, 1]⟩ : Shape).size p).toLoadRect (hm.unread X) y
      = X (ix2 (Fin.ofNat M r) (Fin.ofNat N c)) := by
  subst ho
  refine (hm.readAt_unread X _ _).trans (congrArg X (funext fun a => Fin.ext ?_))
  have h0 : (y 0).val < 1 := (y 0).isLt
  have h1 : (y 1).val < 1 := (y 1).isLt
  match a with
  | ⟨0, _⟩ =>
    show r + 1 * (y 0).val = r % M
    rw [Nat.mod_eq_of_lt] <;> omega
  | ⟨1, _⟩ =>
    show c + 1 * (y 1).val = c % N
    rw [Nat.mod_eq_of_lt] <;> omega

end Cert.Blocks

end
-- ==== Proof.Quant.lean ====
/- The power-of-two scale of a row group, as the kernel finds it and as the reference counts it, over the reals. -/
module

public import Idealize.ShloMosaic.Lib.Pipeline.ValueKit
public import Idealize.ShloMosaic.Lib.Pointwise
public import Idealize.ShloMosaic.Lib.ValueIdx
public import Idealize.ShloMosaic.Lib.IndicatorCount

@[expose] public section

set_option maxRecDepth 16384

noncomputable section

namespace Cert.Quant

open Idealize.ShloMosaic

/-- The word whose exponent field is `E` and whose other bits are zero. -/
def word (E : ℕ) : BitVec 32 := BitVec.ofNat 32 (E * 8388608)

/-- The value of that word: for `E` from 1 to 254 the power of two `2 ^ (E - 127)`, for 255 infinity. -/
def pow (E : ℕ) : EReal := Ideal.ofBits .f32 (word E)

theorem word_ex : ∀ E : Fin 256, (word E).extractLsb' 31 1 = 0#1 ∧ ((word E).extractLsb' 23 8).toNat = E.val
    ∧ ((word E).extractLsb' 0 23).toNat = 0 := by decide +kernel

/-- The words' values. -/
theorem pow_eq (E : ℕ) (h : 1 ≤ E) (h' : E ≤ 254) : pow E = (((2 : ℝ) ^ ((E : ℤ) - 127) : ℝ) : EReal) := by
  obtain ⟨h1, h2, h3⟩ := word_ex ⟨E, by omega⟩
  simp only at h1 h2 h3
  show Ideal.ieee 8 23 (word E) = _
  unfold Ideal.ieee
  simp only [Nat.reduceAdd, h1, h2, h3]
  rw [if_neg (by omega), if_neg (by omega)]
  congr 1
  have : ((E : ℤ) - (2 ^ (8 - 1) - 1) - (23 : ℕ)) = ((E : ℤ) - 127) - 23 := by norm_num
  rw [this, zpow_sub₀ (by norm_num)]
  norm_num
  field_simp

theorem pow_top : pow 255 = ⊤ := by
  obtain ⟨h1, h2, h3⟩ := word_ex ⟨255, by omega⟩
  simp only at h1 h2 h3
  show Ideal.ieee 8 23 (word 255) = _
  unfold Ideal.ieee
  simp only [Nat.reduceAdd, h1, h2, h3]
  simp

/-- The values grow with the exponent field. -/
theorem pow_mono {E E' : ℕ} (h : 1 ≤ E) (h1 : E ≤ E') (h' : E' ≤ 255) : pow E ≤ pow E' := by
  rcases Nat.lt_or_ge 254 E' with h2 | h2
  · obtain rfl : E' = 255 := by omega
    rw [pow_top]; exact le_top
  · rw [pow_eq E h (by omega), pow_eq E' (by omega) h2]
    exact EReal.coe_le_coe_iff.mpr (zpow_le_zpow_right₀ (by norm_num) (by omega))

open Classical in
/-- The largest exponent field from 1 to 255 whose word is at most `v`, 0 if there is none. -/
def level (v : EReal) : ℕ := Nat.findGreatest (fun E => 1 ≤ E ∧ pow E ≤ v) 255

theorem level_le (v : EReal) : level v ≤ 255 := Nat.findGreatest_le _

/-- A word of field `E` is at most `v` exactly when `E` is at most the level of `v`. -/
theorem pow_le_iff (v : EReal) {E : ℕ} (h : 1 ≤ E) (h' : E ≤ 255) : pow E ≤ v ↔ E ≤ level v := by
  classical
  unfold level
  constructor
  · intro hp
    exact Nat.le_findGreatest h' ⟨h, hp⟩
  · intro hE
    have hl : Nat.findGreatest (fun E => 1 ≤ E ∧ pow E ≤ v) 255 ≠ 0 := by omega
    exact (pow_mono h hE (Nat.findGreatest_le _)).trans (Nat.findGreatest_of_ne_zero rfl hl).2

theorem lt_pow_iff (v : EReal) {E : ℕ} (h : 1 ≤ E) (h' : E ≤ 255) : v < pow E ↔ level v < E := by
  rw [← not_le, pow_le_iff v h h', not_le]

/-- A value of infinity is the level 255. -/
theorem eq_top_iff (v : EReal) : v = ⊤ ↔ level v = 255 := by
  rw [← top_le_iff, ← pow_top, pow_le_iff v (by omega) le_rfl]
  have := level_le v
  omega

/-- The word of the scale at level `n`: twice the level's power of two, and 1 at the two ends. -/
def scaleWord (n : ℕ) : BitVec 32 := if n = 0 ∨ n = 255 then 0x3F800000#32 else word (n + 1)

/-- The word of the scale's inverse at level `n`. -/
def invWord (n : ℕ) : BitVec 32 := if n = 0 ∨ n = 255 then 0x3F800000#32 else 0x7E800000#32 - word n

/-- The scale of a row group whose largest magnitude over 448 is `v`. -/
def scale (v : EReal) : EReal := Ideal.ofBits .f32 (scaleWord (level v))

/-- The inverse of that scale. -/
def inv (v : EReal) : EReal := Ideal.ofBits .f32 (invWord (level v))

/-! ## The kernel's search -/

/-- One step of the search: the field so far, with the bit `b` set where the word it then spells is not above `t`. -/
def step {s : Shape} (t : FVec Ideal s .f32) (m : IVec s 32) (b : BitVec 32) : IVec s 32 :=
  select (cmpf .olt t (bitcastToFloat .f32 (ori m (broadcast s b)))) m (ori m (broadcast s b))

/-- The search, from the top bit of the field down. -/
def search {s : Shape} (t : FVec Ideal s .f32) : IVec s 32 :=
  step t (step t (step t (step t (step t (step t (step t (step t (broadcast s 0#32) 1073741824#32) 536870912#32)
    268435456#32) 134217728#32) 67108864#32) 33554432#32) 16777216#32) 8388608#32

theorem word_or : ∀ (k : Fin 8) (a : Fin 256), word a ||| word (2 ^ k.val) = word (a.val ||| 2 ^ k.val)
    ∧ 1 ≤ a.val ||| 2 ^ k.val ∧ a.val ||| 2 ^ k.val ≤ 255 := by decide +kernel

/-- A step on the level. -/
theorem step_apply {s : Shape} (t : FVec Ideal s .f32) (m : IVec s 32) (y : s.Idx) (k : ℕ) (hk : k < 8) (b : BitVec 32)
    (hb : b = word (2 ^ k)) (a : ℕ) (ha : a ≤ 255) (h : m y = word a) :
    step t m b y = word (if level (t y) < a ||| 2 ^ k then a else a ||| 2 ^ k)
      ∧ (if level (t y) < a ||| 2 ^ k then a else a ||| 2 ^ k) ≤ 255 := by
  obtain ⟨e1, e2, e3⟩ := word_or ⟨k, hk⟩ ⟨a, by omega⟩
  simp only at e1 e2 e3
  refine ⟨?_, by split <;> omega⟩
  show (if Ideal.cmp .olt (t y) (Ideal.ofBits .f32 (m y ||| b)) = 1#1 then m y else m y ||| b) = _
  rw [h, hb, e1]
  have := lt_pow_iff (t y) e2 e3
  unfold pow at this
  by_cases hl : level (t y) < a ||| 2 ^ k
  · rw [if_pos hl, if_pos]
    simp [Ideal.cmp, this, hl]
  · rw [if_neg hl, if_neg]
    simp [Ideal.cmp, this, hl]

/-- The eight steps on a level. -/
def steps (n : ℕ) : List ℕ → ℕ → ℕ
  | [], a => a
  | k :: ks, a => steps n ks (if n < a ||| 2 ^ k then a else a ||| 2 ^ k)

theorem steps_eq : ∀ n : Fin 256, steps n.val [7, 6, 5, 4, 3, 2, 1, 0] 0 = n.val := by decide +kernel

/-- The search finds the level's field. -/
theorem search_apply {s : Shape} (t : FVec Ideal s .f32) (y : s.Idx) : search t y = word (level (t y)) := by
  have hn := steps_eq ⟨level (t y), Nat.lt_succ_of_le (level_le _)⟩
  refine Eq.trans ?_ (congrArg word hn)
  unfold search
  obtain ⟨h0, l0⟩ := step_apply t (broadcast s 0#32) y 7 (by omega) 1073741824#32 (by decide) 0 (by omega) rfl
  obtain ⟨h1, l1⟩ := step_apply t _ y 6 (by omega) 536870912#32 (by decide) _ l0 h0
  obtain ⟨h2, l2⟩ := step_apply t _ y 5 (by omega) 268435456#32 (by decide) _ l1 h1
  obtain ⟨h3, l3⟩ := step_apply t _ y 4 (by omega) 134217728#32 (by decide) _ l2 h2
  obtain ⟨h4, l4⟩ := step_apply t _ y 3 (by omega) 67108864#32 (by decide) _ l3 h3
  obtain ⟨h5, l5⟩ := step_apply t _ y 2 (by omega) 33554432#32 (by decide) _ l4 h4
  obtain ⟨h6, l6⟩ := step_apply t _ y 1 (by omega) 16777216#32 (by decide) _ l5 h5
  obtain ⟨h7, l7⟩ := step_apply t _ y 0 (by omega) 8388608#32 (by decide) _ l6 h6
  exact h7

theorem scale_words : ∀ n : Fin 256, Scalar.select (IntOp.cmpi .sgt (word n + 8388608#32) 8388608#32)
    (word n + 8388608#32) 1065353216#32 = scaleWord n := by decide +kernel

theorem inv_words : ∀ n : Fin 256, Scalar.select (IntOp.cmpi .sgt (word n + 8388608#32) 8388608#32)
    (2122317824#32 - word n) 1065353216#32 = invWord n := by decide +kernel

/-! ## The reference's count -/

/-- The count of the powers of two of the normal range that are at most `v`. -/
def count (v : EReal) : BitVec 32 :=
  Finset.univ.fold IntOp.addi 0#32 fun k : Fin 254 => (Ideal.cmp .oge v (pow (k.val + 1))).setWidth 32

theorem count_eq (v : EReal) : count v = BitVec.ofNat 32 (min (level v) 254) := by
  unfold count
  rw [IndicatorCount.fold_addi_setWidth_eq_card]
  congr 1
  have hl := level_le v
  have : (Finset.univ.filter fun k : Fin 254 => Ideal.cmp .oge v (pow (k.val + 1)) = 1#1)
      = Finset.univ.filter fun k : Fin 254 => k.val < level v := by
    refine Finset.filter_congr fun k _ => ?_
    have := pow_le_iff v (E := k.val + 1) (by omega) (by omega)
    by_cases h : k.val < level v <;> simp [Ideal.cmp, this, Nat.succ_le_iff, h]
  rw [this, Fin.card_filter_val_lt, min_comm]

theorem power_words : ∀ x : Fin 254, IntOp.shli ArithUnit.vector (IntOp.addi (IntOp.subi (BitVec.ofNat 32 x.val) 126#32) 127#32) 23#32
    = word (x.val + 1) := by decide +kernel

theorem ref_scale_words : ∀ n : Fin 256, IntOp.shli ArithUnit.vector (IntOp.addi (Scalar.select (IntOp.ori
      (IntOp.cmpi .eq (IntOp.subi (BitVec.ofNat 32 (min n.val 254)) 126#32) 4294967170#32) (BitVec.ofBool (decide (n.val = 255))))
    0#32 (IntOp.subi (BitVec.ofNat 32 (min n.val 254)) 126#32)) 127#32) 23#32 = scaleWord n := by decide +kernel

theorem ref_inv_words : ∀ n : Fin 256, IntOp.shli ArithUnit.vector (IntOp.addi (IntOp.subi 0#32 (Scalar.select (IntOp.ori
      (IntOp.cmpi .eq (IntOp.subi (BitVec.ofNat 32 (min n.val 254)) 126#32) 4294967170#32) (BitVec.ofBool (decide (n.val = 255))))
    0#32 (IntOp.subi (BitVec.ofNat 32 (min n.val 254)) 126#32))) 127#32) 23#32 = invWord n := by decide +kernel

/-- The exponent the reference counts: the count less 126, and 0 at the two ends. -/
def exponent (v : EReal) : BitVec 32 :=
  Scalar.select (IntOp.ori (IntOp.cmpi .eq (IntOp.subi (count v) 126#32) 4294967170#32)
    (Ideal.cmp .oeq v (Ideal.ofBits .f32 0x7F800000#32))) 0#32 (IntOp.subi (count v) 126#32)

theorem cmp_top (v : EReal) : Ideal.cmp .oeq v (Ideal.ofBits .f32 0x7F800000#32) = BitVec.ofBool (decide (level v = 255)) := by
  have h : Ideal.ofBits .f32 0x7F800000#32 = ⊤ := pow_top
  have h2 := eq_top_iff v
  rw [h]
  by_cases hl : level v = 255 <;> simp [Ideal.cmp, h2, hl]

/-- The reference's power of two of that exponent is the scale. -/
theorem ref_scale (v : EReal) :
    Ideal.ofBits .f32 (IntOp.shli ArithUnit.vector (IntOp.addi (exponent v) 127#32) 23#32) = scale v := by
  have h := ref_scale_words ⟨level v, Nat.lt_succ_of_le (level_le v)⟩
  unfold exponent scale
  rw [count_eq, cmp_top]
  exact congrArg (Ideal.ofBits .f32) h

/-- Its power of two of the negated exponent is the inverse. -/
theorem ref_inv (v : EReal) :
    Ideal.ofBits .f32 (IntOp.shli ArithUnit.vector (IntOp.addi (IntOp.subi 0#32 (exponent v)) 127#32) 23#32) = inv v := by
  have h := ref_inv_words ⟨level v, Nat.lt_succ_of_le (level_le v)⟩
  unfold exponent inv
  rw [count_eq, cmp_top]
  exact congrArg (Ideal.ofBits .f32) h

/-! ## A row group -/

/-- The largest magnitude of a row group, times the float nearest 1/448. -/
def top {n : ℕ} (f : Fin n → EReal) : EReal :=
  Finset.univ.fold max (Ideal.ofBits .f32 0xFF800000#32) (fun l => FloatOps.absf (F := Ideal) (φ := .f32) (f l))
    * Ideal.ofBits .f32 0x3B124925#32

/-- The code of `x` in a row group of largest magnitude over 448 `v`: `x` times the scale's inverse, held within ±448. -/
def code (x v : EReal) : EReal :=
  min (Ideal.ofBits .f32 0x43E00000#32) (max (Ideal.ofBits .f32 0xC3E00000#32) (x * inv v))

/-- The largest entry of every row of a matrix. -/
theorem max_r2 {a b : ℕ} (v : FVec Ideal ⟨2, ![a, b]⟩ .f32) (h : (⟨2, ![a, b]⟩ : Shape).Reduces [1] ⟨1, ![a]⟩) (hf hn)
    (y : (⟨1, ![a]⟩ : Shape).Idx) :
    multiReduction .maximumf [1] ⟨1, ![a]⟩ v 0xFF800000#32 h hf hn y
      = Finset.univ.fold max (Ideal.ofBits .f32 0xFF800000#32) fun x : Fin b => v (ix2 (y 0) x) := by
  pointwise []

/-- The largest entry of every innermost row of an array of three axes. -/
theorem max_r3 {a b c : ℕ} (v : FVec Ideal ⟨3, ![a, b, c]⟩ .f32) (h : (⟨3, ![a, b, c]⟩ : Shape).Reduces [2] ⟨2, ![a, b]⟩) (hf hn)
    (y : (⟨2, ![a, b]⟩ : Shape).Idx) :
    multiReduction .maximumf [2] ⟨2, ![a, b]⟩ v 0xFF800000#32 h hf hn y
      = Finset.univ.fold max (Ideal.ofBits .f32 0xFF800000#32) fun x : Fin c => v (ix3 (y 0) (y 1) x) := by
  pointwise []

/-- The largest magnitude over 448 of every innermost row of an array of three axes. -/
theorem top_r3 {a b c : ℕ} (v : FVec Ideal ⟨3, ![a, b, c]⟩ .f32) (h : (⟨3, ![a, b, c]⟩ : Shape).Reduces [2] ⟨2, ![a, b]⟩) (hf hn)
    (y : (⟨2, ![a, b]⟩ : Shape).Idx) :
    mulf (multiReduction .maximumf [2] ⟨2, ![a, b]⟩ (absf v) 0xFF800000#32 h hf hn) (broadcast ⟨2, ![a, b]⟩ (Scalar.ofBits .f32 0x3B124925#32)) y
      = top fun x : Fin c => v (ix3 (y 0) (y 1) x) := by
  unfold top
  exact congrArg (· * Ideal.ofBits .f32 0x3B124925#32) (max_r3 (absf v) h hf hn y)

/-- The count as a sum over the powers' words. -/
theorem count_words (v : EReal) : Finset.fold IntOp.addi 0#32 (fun x : Fin 254 => BitVec.setWidth 32 (BitVec.ofBool (decide
    (Ideal.ofBits .f32 (IntOp.shli ArithUnit.vector (IntOp.addi (IntOp.subi (BitVec.ofNat 32 x.val) 126#32) 127#32) 23#32) ≤ v))))
    Finset.univ = count v := by
  unfold count
  refine congrArg (fun f => Finset.fold IntOp.addi 0#32 f Finset.univ) (funext fun x => ?_)
  rw [power_words x]
  unfold pow Ideal.cmp
  rfl

/-- The exponent as the reference selects it. -/
theorem exponent_apply {s : Shape} (A : FVec Ideal s .f32) (B : IVec s 32) (y : s.Idx) (h : B y = IntOp.subi (count (A y)) 126#32) :
    select (ori (cmpi .eq B (broadcast s 4294967170#32)) (cmpf .oeq A (broadcast s (Scalar.ofBits .f32 0x7F800000#32))))
      (broadcast s 0#32) B y = exponent (A y) := by
  have e : select (ori (cmpi .eq B (broadcast s 4294967170#32)) (cmpf .oeq A (broadcast s (Scalar.ofBits .f32 0x7F800000#32))))
      (broadcast s 0#32) B y = Scalar.select (IntOp.ori (IntOp.cmpi .eq (B y) 4294967170#32)
        (Ideal.cmp .oeq (A y) (Ideal.ofBits .f32 0x7F800000#32))) 0#32 (B y) := rfl
  rw [e, h]
  rfl
end Cert.Quant

end
-- ==== Proof.NormBody.lean ====
module

public import proofs.«01_k».proof.Proof.Gen.NormIdeal.Value
public import proofs.«01_k».proof.Proof.Concat
public import proofs.«01_k».proof.Proof.Quant

/-! What the body of the normalisation leaves in its output buffers, element by element. The body takes the row's
columns 128 at a time; every group's values are the same functions of the root and of the group's columns. -/

@[expose] public section

set_option maxRecDepth 16384

noncomputable section

namespace Cert
open Idealize.ShloMosaic
open Cert.Quant

/-- The reciprocal root of a row's mean square, with the constant that keeps it from zero. -/
def root (f : Fin 3584 → EReal) : EReal :=
  Ideal.rsqrt (Ideal.div (∑ k, f k * f k) (Ideal.ofBits .f32 0x45600000#32) + Ideal.ofBits .f32 0x358637BD#32)

section
variable {n : ℕ} (x : FVec Ideal ⟨2, ![n, 3584]⟩ .bf16) (w : FVec Ideal ⟨2, ![1, 3584]⟩ .bf16)

/-- The normalised value of row `r`, column `q`. -/
def normed (r : Fin n) (q : Fin 3584) : EReal := x (ix2 r q) * root (fun k => x (ix2 r k)) * w (ix2 0 q)

/-- The normalised values of group `j` of a row. -/
def normGroup (r : Fin n) (j : ℕ) (l : Fin 128) : EReal := normed x w r (Fin.ofNat 3584 (128 * j + l.val))

/-- The codes of the normalised values, quantised by rows and groups of 128 columns. -/
def normCodes : FVec Ideal ⟨2, ![n, 3584]⟩ .fp8e4m3 := fun y =>
  code (normed x w (y 0) (y 1)) (top (normGroup x w (y 0) ((y 1).val / 128)))

/-- The scales of the groups. -/
def normScales : FVec Ideal ⟨2, ![n, 28]⟩ .f32 := fun y => scale (top (normGroup x w (y 0) (y 1).val))

/-- The codes times their scales. -/
def normWide : FVec Ideal ⟨2, ![n, 3584]⟩ .bf16 := fun y =>
  (code (normed x w (y 0) (y 1)) (top (normGroup x w (y 0) ((y 1).val / 128))) * scale (top (normGroup x w (y 0) ((y 1).val / 128))) : EReal)
end

/-- The normalised values depend on the row and the weights only. -/
theorem normed_congr {n n' : ℕ} {x : FVec Ideal ⟨2, ![n, 3584]⟩ .bf16} {x' : FVec Ideal ⟨2, ![n', 3584]⟩ .bf16}
    {w w' : FVec Ideal ⟨2, ![1, 3584]⟩ .bf16} {r : Fin n} {r' : Fin n'} (hx : ∀ k, x (ix2 r k) = x' (ix2 r' k)) (hw : w = w') :
    normed x w r = normed x' w' r' := by
  funext q
  unfold normed
  rw [hx q, hw, show (fun k => x (ix2 r k)) = fun k => x' (ix2 r' k) from funext hx]

theorem normGroup_congr {n n' : ℕ} {x : FVec Ideal ⟨2, ![n, 3584]⟩ .bf16} {x' : FVec Ideal ⟨2, ![n', 3584]⟩ .bf16}
    {w w' : FVec Ideal ⟨2, ![1, 3584]⟩ .bf16} {r : Fin n} {r' : Fin n'} (hx : ∀ k, x (ix2 r k) = x' (ix2 r' k)) (hw : w = w') :
    normGroup x w r = normGroup x' w' r' := by
  unfold normGroup
  rw [normed_congr hx hw]

end Cert

namespace Cert.NormIdeal.Body

open Cert.NormIdeal Cert.NormIdeal.Gen Idealize.ShloMosaic Idealize.ShloMosaic.TcCoe Idealize.SL.Sem
open Cert.Blocks Cert.Quant

/-! ## One group -/

/-- The largest magnitude of every row, over 448. -/
def topV (h : FVec Ideal S256x128 .f32) : FVec Ideal S256x1 .f32 :=
  mulf (shapeCast S256x1 (multiReduction .maximumf [1] S256 (absf h) 0xFF800000#32 reduces_S256x128_S256 (.inl rfl) rfl)
    shapeCasts_S256_S256x1) (broadcast S256x1 (Scalar.ofBits .f32 0x3B124925#32))

/-- The field of the scale, one above the field found. -/
def next (M : IVec S256x1 32) : IVec S256x1 32 := addi M (broadcast S256x1 8388608#32)

/-- The scales from the fields found. -/
def scaleV (M : IVec S256x1 32) : FVec Ideal S256x1 .f32 :=
  bitcastToFloat .f32 (select (cmpi .sgt (next M) (broadcast S256x1 8388608#32)) (next M) (broadcast S256x1 1065353216#32))

/-- The scales' inverses from the fields found. -/
def invV (M : IVec S256x1 32) : FVec Ideal S256x1 .f32 :=
  bitcastToFloat .f32 (select (cmpi .sgt (next M) (broadcast S256x1 8388608#32)) (subi (broadcast S256x1 2122317824#32) M)
    (broadcast S256x1 1065353216#32))

/-- The codes from the values and the fields found. -/
def codesV (H : FVec Ideal S256x128 .f32) (M : IVec S256x1 32) : FVec Ideal S256x128 .fp8e4m3 :=
  truncf .fp8e4m3 (minimumf (broadcast S256x128 (Scalar.ofBits .f32 0x43E00000#32)) (maximumf (broadcast S256x128
    (Scalar.ofBits .f32 0xC3E00000#32)) (mulf H (broadcastTo S256x128 (invV M) broadcasts_S256x1_S256x128)))) bitsLt_fp8e4m3_f32

/-- The codes times their scales. -/
def wideV (H : FVec Ideal S256x128 .f32) (M : IVec S256x1 32) : FVec Ideal S256x128 .bf16 :=
  mulf (extf .bf16 (codesV H M) bitsLt_fp8e4m3_bf16) (broadcastTo S256x128 (truncf .bf16 (scaleV M) bitsLt_bf16_f32)
    broadcasts_S256x1_S256x128)

/-! ## The groups of a block -/

/-- The columns of group `j` of a block of 256 rows, and of the row of weights. -/
theorem inb_cols (j : Fin 28) : ∀ a, (![0, 128 * j.val] : Fin 2 → ℕ) a + S256x128.size a ≤ S256x3584.size a := by
  have := j.isLt
  intro a
  fin_cases a
  · show 0 + 256 ≤ 256; omega
  · show 128 * j.val + 128 ≤ 3584; omega
theorem inb_weights (j : Fin 28) : ∀ a, (![0, 128 * j.val] : Fin 2 → ℕ) a + S1x128.size a ≤ S1x3584.size a := by
  have := j.isLt
  intro a
  fin_cases a
  · show 0 + 1 ≤ 1; omega
  · show 128 * j.val + 128 ≤ 3584; omega
abbrev cols (j : Fin 28) : Rect S256x3584 := Rect.unit (s := S256x3584) ![0, 128 * j.val] S256x128.size (inb_cols j)
abbrev weights (j : Fin 28) : Rect S1x3584 := Rect.unit (s := S1x3584) ![0, 128 * j.val] S1x128.size (inb_weights j)

section
variable (x0 : Vec Ideal S256x3584 .bf16) (x1 : Vec Ideal S1x3584 .bf16)

/-- The values of group `j`, and the fields found for them. -/
def vals (j : Fin 28) : FVec Ideal S256x128 .f32 :=
  k0_pay13 (k0_pay2 (View.ld x0 r0_0)) (View.ld x0 (cols j)) (View.ld x1 (weights j))
def field (j : Fin 28) : IVec S256x1 32 := search (topV (vals x0 x1 j))

/-- The pieces stored. -/
def codeOf (j : Fin 28) : View.Piece (Elt Ideal) S256x3584 .fp8e4m3 := ⟨cols j, codesV (vals x0 x1 j) (field x0 x1 j)⟩
def wideOf (j : Fin 28) : View.Piece (Elt Ideal) S256x3584 .bf16 := ⟨cols j, wideV (vals x0 x1 j) (field x0 x1 j)⟩

/-- The groups, last first. -/
def groups : List (Fin 28) := [27, 26, 25, 24, 23, 22, 21, 20, 19, 18, 17, 16, 15, 14, 13, 12, 11, 10, 9, 8, 7, 6, 5, 4, 3, 2, 1, 0]
theorem mem_groups : ∀ j : Fin 28, j ∈ groups := by decide

set_option maxHeartbeats 2000000 in
/-- The buffer of codes is the groups' pieces. -/
theorem out2_eq : out0_2 x0 x1 = View.canon (groups.map (codeOf x0 x1)) := rfl

set_option maxHeartbeats 2000000 in
/-- The buffer of widened codes is the groups' pieces. -/
theorem out4_eq : out0_4 x0 x1 = View.canon (groups.map (wideOf x0 x1)) := rfl

/-- The groups' columns of scales, first first. -/
def columns : Fin 28 → S256x1.Idx → EReal := fun j => scaleV (field x0 x1 j)
theorem columns_join : Shape.Concatenates ((List.ofFn fun j => (⟨S256x1, columns x0 x1 j⟩ : (s : Shape) × (s.Idx → EReal))).map (·.1))
    S256x28 1 := by
  rw [List.map_ofFn]
  exact concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x28_d1

set_option maxHeartbeats 2000000 in
/-- The buffer of scales is the groups' columns side by side. -/
theorem out3_eq : out0_3 x0 x1 = View.canon [⟨r0_57, concatenate S256x28 1
    (List.ofFn fun j => (⟨S256x1, columns x0 x1 j⟩ : (s : Shape) × (s.Idx → EReal))) (columns_join x0 x1)⟩] := rfl

theorem topV_apply (h : FVec Ideal S256x128 .f32) (y : S256x1.Idx) : topV h y = top fun l => h (ix2 (y 0) l) := by
  unfold topV
  pointwise []
  rfl

/-- The scale from the field. -/
theorem scaleV_apply (M : IVec S256x1 32) (y : S256x1.Idx) (v : EReal) (hM : M y = word (level v)) : scaleV M y = scale v := by
  have hw := scale_words ⟨level v, Nat.lt_succ_of_le (level_le v)⟩
  unfold scaleV next
  pointwise []
  rw [hM]
  unfold scale
  rw [← hw]
  rfl

/-- The codes from the values and the field. -/
theorem codesV_apply (H : FVec Ideal S256x128 .f32) (M : IVec S256x1 32) (y : S256x128.Idx) (v : EReal)
    (hM : M (ix2 (y 0) 0) = word (level v)) : codesV H M y = code (H y) v := by
  have hw := inv_words ⟨level v, Nat.lt_succ_of_le (level_le v)⟩
  unfold codesV invV next
  pointwise []
  rw [hM]
  unfold code Quant.inv
  rw [← hw]
  rfl

/-- The codes times the scales. -/
theorem wideV_apply (H : FVec Ideal S256x128 .f32) (M : IVec S256x1 32) (y : S256x128.Idx) (v : EReal)
    (hM : M (ix2 (y 0) 0) = word (level v)) : wideV H M y = (code (H y) v * scale v : EReal) := by
  have hC := codesV_apply H M y v hM
  have hS := scaleV_apply M _ v hM
  unfold wideV
  generalize codesV H M = C at hC ⊢
  generalize scaleV M = S at hS ⊢
  pointwise []
  rw [hC, hS]

/-! ## The values -/

/-- The values of group `j` are the normalised values of its columns. -/
theorem vals_apply (j : Fin 28) (y : S256x128.Idx) : vals x0 x1 j y = normGroup x0 x1 (y 0) j.val (y 1) := by
  have hy : (y 1).val < 128 := (y 1).isLt
  have hR : ∀ z : S256x1.Idx, k0_pay2 (F := Ideal) (View.ld x0 r0_0) z = root fun k => x0 (ix2 (z 0) k) := by
    intro z
    unfold k0_pay2 root
    pointwise []
  unfold vals
  generalize k0_pay2 (F := Ideal) (View.ld x0 r0_0) = R at hR ⊢
  pointwise [k0_pay13]
  rw [hR]
  unfold normGroup normed
  have e : ∀ p : 128 * j.val + (y 1).val < 3584, (⟨128 * j.val + (y 1).val, p⟩ : Fin 3584) = Fin.ofNat 3584 (128 * j.val + (y 1).val) :=
    fun p => Fin.ext (Nat.mod_eq_of_lt p).symm
  rw [e]
  rfl

/-- The field found for group `j`. -/
theorem field_apply (j : Fin 28) (y : S256x1.Idx) : field x0 x1 j y = word (level (top (normGroup x0 x1 (y 0) j.val))) := by
  unfold field
  rw [search_apply, topV_apply]
  exact congrArg (fun f => word (level (top f))) (funext fun l => vals_apply x0 x1 j _)

/-- Where an index of group `j` lies in the block. -/
theorem cols_emb (j : Fin 28) (y : S256x128.Idx) : (((cols j).emb y 0).val = (y 0).val) ∧ ((cols j).emb y 1).val = 128 * j.val + (y 1).val := by
  constructor
  · rw [Rect.emb_apply]
    show 0 + 1 * (y 0).val = (y 0).val
    omega
  · rw [Rect.emb_apply]
    show 128 * j.val + 1 * (y 1).val = 128 * j.val + (y 1).val
    omega

/-- The value and the group at such an index. -/
theorem at_cols (j : Fin 28) (y : S256x128.Idx) :
    normGroup x0 x1 (y 0) j.val (y 1) = normed x0 x1 ((cols j).emb y 0) ((cols j).emb y 1)
      ∧ normGroup x0 x1 (y 0) j.val = normGroup x0 x1 ((cols j).emb y 0) (((cols j).emb y 1).val / 128) := by
  obtain ⟨e0, e1⟩ := cols_emb j y
  have hy : (y 1).val < 128 := (y 1).isLt
  have h0 : (cols j).emb y 0 = y 0 := Fin.ext e0
  have h1 : (cols j).emb y 1 = Fin.ofNat 3584 (128 * j.val + (y 1).val) :=
    Fin.ext (e1.trans (Nat.mod_eq_of_lt (by have := j.isLt; omega)).symm)
  have h2 : ((cols j).emb y 1).val / 128 = j.val := by omega
  exact ⟨congrArg₂ (normed x0 x1) h0.symm h1.symm, congrArg₂ (normGroup x0 x1) h0.symm h2.symm⟩

/-- Every column is in its group. -/
theorem covered (y : S256x3584.Idx) : ∃ j : Fin 28, y ∈ (cols j).set := by
  have h0 : (y 0).val < 256 := (y 0).isLt
  have h1 : (y 1).val < 3584 := (y 1).isLt
  refine ⟨⟨(y 1).val / 128, by omega⟩, Rect.mem_set_unit.mpr fun a => ?_⟩
  fin_cases a
  · exact ⟨Nat.zero_le _, by show (y 0).val < 0 + 256; omega⟩
  · exact ⟨by show 128 * ((y 1).val / 128) ≤ (y 1).val; omega, by show (y 1).val < 128 * ((y 1).val / 128) + 128; omega⟩

theorem out2_apply (y : S256x3584.Idx) : out0_2 x0 x1 y = normCodes x0 x1 y := by
  rw [out2_eq]
  refine View.canon_apply_of_pieces (Val := Elt Ideal) (e := .fp8e4m3) (normCodes x0 x1) _ ?_ y ?_
  · intro p hp z
    obtain ⟨j, -, rfl⟩ := List.mem_map.mp hp
    obtain ⟨a1, a2⟩ := at_cols x0 x1 j z
    refine (codesV_apply _ _ z _ (field_apply x0 x1 j _)).trans ?_
    exact congrArg₂ code ((vals_apply x0 x1 j z).trans a1) (congrArg top a2)
  · obtain ⟨j, hj⟩ := covered y
    exact ⟨_, List.mem_map.mpr ⟨j, mem_groups j, rfl⟩, hj⟩

theorem out4_apply (y : S256x3584.Idx) : out0_4 x0 x1 y = normWide x0 x1 y := by
  rw [out4_eq]
  refine View.canon_apply_of_pieces (Val := Elt Ideal) (e := .bf16) (normWide x0 x1) _ ?_ y ?_
  · intro p hp z
    obtain ⟨j, -, rfl⟩ := List.mem_map.mp hp
    obtain ⟨a1, a2⟩ := at_cols x0 x1 j z
    refine (wideV_apply _ _ z _ (field_apply x0 x1 j _)).trans ?_
    exact mul_eq (congrArg₂ code ((vals_apply x0 x1 j z).trans a1) (congrArg top a2)) (congrArg (fun f => scale (top f)) a2)
  · obtain ⟨j, hj⟩ := covered y
    exact ⟨_, List.mem_map.mpr ⟨j, mem_groups j, rfl⟩, hj⟩

theorem out3_apply (y : S256x28.Idx) : out0_3 x0 x1 y = normScales x0 x1 y := by
  rw [out3_eq]
  have h : ∀ j z, columns x0 x1 j z = scale (top (normGroup x0 x1 (z 0) j.val)) :=
    fun j z => scaleV_apply _ z _ (field_apply x0 x1 j z)
  generalize columns_join x0 x1 = hj
  generalize columns x0 x1 = C at h hj ⊢
  have hc : ∀ z, concatenate S256x28 1 (List.ofFn fun j => (⟨S256x1, C j⟩ : (s : Shape) × (s.Idx → EReal))) hj z
      = scale (top (normGroup x0 x1 (z 0) (z 1).val)) := by
    intro z
    rw [concatenate_ofFn_unit_apply' 1 C hj rfl z, h]
    rfl
  generalize concatenate S256x28 1 (List.ofFn fun j => (⟨S256x1, C j⟩ : (s : Shape) × (s.Idx → EReal))) hj = K at hc ⊢
  frame_out
  exact hc _

end
end Cert.NormIdeal.Body
end
-- ==== Proof.NormValue.lean ====
module

public import proofs.«01_k».proof.Proof.NormBody

/-! The result arrays of the normalisation: what every run of the kernel leaves in them. -/

@[expose] public section

set_option maxRecDepth 16384

noncomputable section

namespace Cert.NormIdeal.Body

open Cert.NormIdeal Cert.NormIdeal.Gen Idealize.ShloMosaic Idealize.ShloMosaic.TcCoe Idealize.SL.Sem
open Cert.Blocks Cert.Quant

variable (m : (ℓ : Loc nD τ sig) → Buf (Elt Ideal) ℓ)

/-- The arrays the region reads: the rows and the weights. -/
abbrev X (c : Dev nD) : FVec Ideal S8192x3584 .bf16 := V m c main_v0
abbrev W (c : Dev nD) : FVec Ideal S1x3584 .bf16 := V m c main_v1

/-- The windows' block indices: point `t` takes the block of rows `t`, and the weights whole. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem lt_32 (t : Fin cfg0.N) : t.val < 32 := lt_of_lt_of_eq t.isLt (by decide +kernel)

/-- Row `r` of the block of point `t`. -/
def row (t : Fin cfg0.N) (r : Fin 256) : Fin 8192 := ⟨t.val * 256 + r.val, by have := lt_32 t; omega⟩

theorem blk_rows (c : Dev nD) (t : Fin cfg0.N) (r : Fin 256) (k : Fin 3584) :
    (iblk m c 0 t : Vec Ideal S256x3584 .bf16) (ix2 r k) = X m c (ix2 (row t r) k) := by
  unfold row
  blk_point [iblk, idx t]

theorem blk_weights (c : Dev nD) (t : Fin cfg0.N) : (iblk m c 1 t : Vec Ideal S1x3584 .bf16) = W m c := by
  funext y
  blk_point [iblk, idx t]

/-- The normalised values of a block's row are those of the array's row. -/
theorem rows_eq (c : Dev nD) (t : Fin cfg0.N) (r : Fin 256) :
    Cert.normed (n := 256) (iblk m c 0 t) (iblk m c 1 t) r = Cert.normed (X m c) (W m c) (row t r) :=
  Cert.normed_congr (blk_rows m c t r) (blk_weights m c t)
theorem groups_eq (c : Dev nD) (t : Fin cfg0.N) (r : Fin 256) :
    Cert.normGroup (n := 256) (iblk m c 0 t) (iblk m c 1 t) r = Cert.normGroup (X m c) (W m c) (row t r) :=
  Cert.normGroup_congr (blk_rows m c t r) (blk_weights m c t)

theorem final2 (c : Dev nD) : (dats m 0 c).arrAt 2 cfg0.N = Cert.normCodes (n := 8192) (X m c) (W m c) := by
  refine (dats m 0 c).arrAt_eq_of_covers 2 _ (by decide +kernel) fun t _ y => ?_
  blk_simp
  rw [after0_2]
  refine (out2_apply _ _ y).trans ?_
  have e0 : ((win0_2.blk t).view.emb y 0).val = t.val * 256 + (y 0).val := by blk_point [idx t]
  have e1 : ((win0_2.blk t).view.emb y 1).val = (y 1).val := by blk_point [idx t]
  have h0 : (win0_2.blk t).view.emb y 0 = row t (y 0) := Fin.ext e0
  have h1 : (win0_2.blk t).view.emb y 1 = y 1 := Fin.ext e1
  unfold Cert.normCodes
  rw [h0, h1]
  exact congrArg₂ code (congrFun (rows_eq m c t (y 0)) _) (congrArg top (congrFun (groups_eq m c t (y 0)) _))

theorem final3 (c : Dev nD) : (dats m 0 c).arrAt 3 cfg0.N = Cert.normScales (n := 8192) (X m c) (W m c) := by
  refine (dats m 0 c).arrAt_eq_of_covers 3 _ (by decide +kernel) fun t _ y => ?_
  blk_simp
  rw [after0_3]
  refine (out3_apply _ _ y).trans ?_
  have e0 : ((win0_3.blk t).view.emb y 0).val = t.val * 256 + (y 0).val := by blk_point [idx t]
  have e1 : ((win0_3.blk t).view.emb y 1).val = (y 1).val := by blk_point [idx t]
  have h0 : (win0_3.blk t).view.emb y 0 = row t (y 0) := Fin.ext e0
  have h1 : (win0_3.blk t).view.emb y 1 = y 1 := Fin.ext e1
  unfold Cert.normScales
  rw [h0, h1]
  exact congrArg (fun f => scale (top f)) (congrFun (groups_eq m c t (y 0)) _)

theorem final4 (c : Dev nD) : (dats m 0 c).arrAt 4 cfg0.N = Cert.normWide (n := 8192) (X m c) (W m c) := by
  refine (dats m 0 c).arrAt_eq_of_covers 4 _ (by decide +kernel) fun t _ y => ?_
  blk_simp
  rw [after0_4]
  refine (out4_apply _ _ y).trans ?_
  have e0 : ((win0_4.blk t).view.emb y 0).val = t.val * 256 + (y 0).val := by blk_point [idx t]
  have e1 : ((win0_4.blk t).view.emb y 1).val = (y 1).val := by blk_point [idx t]
  have h0 : (win0_4.blk t).view.emb y 0 = row t (y 0) := Fin.ext e0
  have h1 : (win0_4.blk t).view.emb y 1 = y 1 := Fin.ext e1
  unfold Cert.normWide
  rw [h0, h1]
  exact mul_eq (congrArg₂ code (congrFun (rows_eq m c t (y 0)) _) (congrArg top (congrFun (groups_eq m c t (y 0)) _)))
    (congrArg (fun f => scale (top f)) (congrFun (groups_eq m c t (y 0)) _))

end Cert.NormIdeal.Body
end
-- ==== Proof.NormRef.lean ====
module

public import proofs.«01_k».proof.Proof.NormBody
public import proofs.«01_k».proof.Proof.Gen.NormRefIdeal.Value

/-! The result arrays of the normalisation's reference. -/

@[expose] public section

set_option maxRecDepth 16384

noncomputable section

namespace Cert.NormRefIdeal.Body

open Cert.NormRefIdeal Cert.NormRefIdeal.Gen Idealize.ShloMosaic Idealize.ShloMosaic.TcCoe Idealize.SL.Sem
open Cert.Blocks Cert.Quant

/-! ## What the body's values are -/

section
variable (v0 : Vec Ideal S8192x3584 .bf16) (v13 : Vec Ideal S1x3584 .bf16)

/-- The normalised values by groups. -/
theorem pay6_apply (y : S8192x28x128.Idx) : k0_pay6 v0 v13 y = Cert.normGroup (n := 8192) v0 v13 (y 0) (y 1).val (y 2) := by
  have h1 : (y 1).val < 28 := (y 1).isLt
  have h2 : (y 2).val < 128 := (y 2).isLt
  unfold k0_pay6
  pointwise []
  have e : ∀ p : (y 1).val * 128 + (y 2).val < 3584, (⟨(y 1).val * 128 + (y 2).val, p⟩ : Fin 3584)
      = Fin.ofNat 3584 (128 * (y 1).val + (y 2).val) := fun p => Fin.ext (by
    show (y 1).val * 128 + (y 2).val = (128 * (y 1).val + (y 2).val) % 3584
    omega)
  unfold Cert.normGroup Cert.normed Cert.root
  rw [← e (by omega)]

/-- The largest magnitude of every group, over 448. -/
theorem pay7_apply (y : S8192x28.Idx) : k0_pay7 v0 v13 y = top (Cert.normGroup (n := 8192) v0 v13 (y 0) (y 1).val) := by
  have h := pay6_apply v0 v13
  unfold k0_pay7
  generalize k0_pay6 v0 v13 = A at h ⊢
  exact (top_r3 A _ _ _ y).trans (congrArg top (funext fun l => h (ix3 (y 0) (y 1) l)))

/-- The count of the powers of two that are at most it. -/
theorem pay8_apply (y : S8192x28.Idx) : k0_pay8 v0 v13 y = IntOp.subi (count (k0_pay7 v0 v13 y)) 126#32 := by
  unfold k0_pay8
  generalize k0_pay7 v0 v13 = A
  pointwise []
  exact congrArg (fun n => IntOp.subi n 126#32) (count_words (A y))

/-- The exponent. -/
theorem pay1_apply (y : S8192x28.Idx) : k0_pay1 (k0_pay8 v0 v13) (k0_pay9 v0 v13) 0#32 y = exponent (k0_pay7 v0 v13 y) := by
  have h := pay8_apply v0 v13
  unfold k0_pay1 k0_pay9
  generalize k0_pay8 v0 v13 = B at h ⊢
  generalize k0_pay7 v0 v13 = A at h ⊢
  exact exponent_apply A B y (h y)
end

/-! ## The quantiser -/

section
variable (v18 : FVec Ideal S8192x28x128 .f32) (T : FVec Ideal S8192x28 .f32) (v37 : IVec S8192x28 32) (v42 : IVec S8192x28 1)
  (he : ∀ z, k0_pay1 v37 v42 0#32 z = exponent (T z))
include he

theorem pay2_apply (y : S8192x28.Idx) : k0_pay2 (F := Ideal) v37 v42 0#32 y = scale (T y) := by
  unfold k0_pay2
  generalize k0_pay1 v37 v42 0#32 = B at he ⊢
  pointwise []
  rw [he]
  exact ref_scale (T y)

theorem pay3_apply (y : S8192x28x128.Idx) : k0_pay3 v18 v37 v42 0#32 y = code (v18 y) (T (ix2 (y 0) (y 1))) := by
  unfold k0_pay3
  generalize k0_pay1 v37 v42 0#32 = B at he ⊢
  pointwise []
  rw [he]
  unfold code
  rw [← ref_inv]

theorem pay4_apply (y : S8192x3584.Idx) : k0_pay4 v18 v37 v42 0#32 y
    = code (v18 (ix3 (y 0) (Fin.ofNat 28 ((y 1).val / 128)) (Fin.ofNat 128 (y 1).val))) (T (ix2 (y 0) (Fin.ofNat 28 ((y 1).val / 128)))) := by
  have hy : (y 1).val < 3584 := (y 1).isLt
  have h := pay3_apply v18 T v37 v42 he
  unfold k0_pay4
  generalize k0_pay3 v18 v37 v42 0#32 = B at h ⊢
  pointwise []
  rw [h]
  have e : ∀ p : (y 1).val / 128 < 28, (⟨(y 1).val / 128, p⟩ : Fin 28) = Fin.ofNat 28 ((y 1).val / 128) :=
    fun p => Fin.ext (Nat.mod_eq_of_lt p).symm
  rw [← e (by omega)]
  rfl

theorem pay5_apply (y : S8192x3584.Idx) : k0_pay5 v18 v37 v42 0#32 y
    = (code (v18 (ix3 (y 0) (Fin.ofNat 28 ((y 1).val / 128)) (Fin.ofNat 128 (y 1).val))) (T (ix2 (y 0) (Fin.ofNat 28 ((y 1).val / 128))))
      * scale (T (ix2 (y 0) (Fin.ofNat 28 ((y 1).val / 128)))) : EReal) := by
  have hy : (y 1).val < 3584 := (y 1).isLt
  have h := pay3_apply v18 T v37 v42 he
  have h2 := pay2_apply T v37 v42 he
  unfold k0_pay5
  generalize k0_pay3 v18 v37 v42 0#32 = B at h ⊢
  generalize k0_pay2 (F := Ideal) v37 v42 0#32 = C at h2 ⊢
  pointwise []
  rw [h, h2]
  have e : ∀ p : (y 1).val / 128 < 28, (⟨(y 1).val / 128, p⟩ : Fin 28) = Fin.ofNat 28 ((y 1).val / 128) :=
    fun p => Fin.ext (Nat.mod_eq_of_lt p).symm
  rw [← e (by omega)]
  rfl
end

/-! ## The arrays -/

section
variable (m : (ℓ : Loc nD τ sig) → Buf (Elt Ideal) ℓ)

/-- The arrays the region reads: the rows and the weights. -/
abbrev X (c : Dev nD) : FVec Ideal S8192x3584 .bf16 := V m c main_v0
abbrev W (c : Dev nD) : FVec Ideal S1x3584 .bf16 := V m c main_v1

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

theorem rows_eq (c : Dev nD) (r : Fin 8192) (k : Fin 3584) : (iblk m c 0 t0_0 : Vec Ideal S8192x3584 .bf16) (ix2 r k) = X m c (ix2 r k) := by
  blk_point [iblk, idx t0_0]

theorem weights_eq (c : Dev nD) (r : Fin 1) (k : Fin 3584) : (iblk m c 1 t0_0 : Vec Ideal S1x3584 .bf16) (ix2 r k) = W m c (ix2 r k) := by
  blk_point [iblk, idx t0_0]

theorem ld_rows (x : Vec Ideal S8192x3584 .bf16) : View.ld x r0_0 = x := View.ld_unit_zero (by decide) _ x
theorem ld_weights (x : Vec Ideal S1x3584 .bf16) : View.ld x r0_1 = x := View.ld_unit_zero (by decide) _ x

theorem blk0 (c : Dev nD) : View.ld (iblk m c 0 t0_0 : Vec Ideal S8192x3584 .bf16) r0_0 = X m c :=
  (ld_rows _).trans (funext fun y => (congrArg _ (ix2_eta y)).symm.trans ((rows_eq m c (y 0) (y 1)).trans (congrArg _ (ix2_eta y))))

theorem blk1 (c : Dev nD) : View.ld (iblk m c 1 t0_0 : Vec Ideal S1x3584 .bf16) r0_1 = W m c :=
  (ld_weights _).trans (funext fun y => (congrArg _ (ix2_eta y)).symm.trans ((weights_eq m c (y 0) (y 1)).trans (congrArg _ (ix2_eta y))))

theorem pay10_eq (c : Dev nD) : k0_pay10 (iblk m c 0 t0_0) (iblk m c 1 t0_0) = k0_pay6 (F := Ideal) (X m c) (W m c) := by
  unfold k0_pay10
  rw [blk0, blk1]

theorem pay11_eq (c : Dev nD) : k0_pay11 (iblk m c 0 t0_0) (iblk m c 1 t0_0) = k0_pay8 (F := Ideal) (X m c) (W m c) := by
  unfold k0_pay11
  rw [blk0, blk1]

theorem pay12_eq (c : Dev nD) : k0_pay12 (iblk m c 0 t0_0) (iblk m c 1 t0_0) = k0_pay9 (F := Ideal) (X m c) (W m c) := by
  unfold k0_pay12
  rw [blk0, blk1]

/-- A column's group, and the column's value in its group. -/
theorem group_eq (y : S8192x3584.Idx) : (Fin.ofNat 28 ((y 1).val / 128)).val = (y 1).val / 128 := by
  have hy : (y 1).val < 3584 := (y 1).isLt
  exact Nat.mod_eq_of_lt (by omega)

theorem value_eq (x : FVec Ideal S8192x3584 .bf16) (w : FVec Ideal S1x3584 .bf16) (y : S8192x3584.Idx) :
    Cert.normGroup (n := 8192) x w (y 0) (Fin.ofNat 28 ((y 1).val / 128)).val (Fin.ofNat 128 (y 1).val) = Cert.normed (n := 8192) x w (y 0) (y 1) := by
  have hy : (y 1).val < 3584 := (y 1).isLt
  refine congrArg (Cert.normed (n := 8192) x w (y 0)) (Fin.ext ?_)
  show (128 * ((y 1).val / 128 % 28) + (y 1).val % 128) % 3584 = (y 1).val
  omega

theorem codes_group (x : FVec Ideal S8192x3584 .bf16) (w : FVec Ideal S1x3584 .bf16) (y : S8192x3584.Idx) :
    code (Cert.normGroup (n := 8192) x w (y 0) (Fin.ofNat 28 ((y 1).val / 128)).val (Fin.ofNat 128 (y 1).val))
      (top (Cert.normGroup (n := 8192) x w (y 0) (Fin.ofNat 28 ((y 1).val / 128)).val)) = Cert.normCodes (n := 8192) x w y := by
  rw [value_eq, group_eq]
  rfl

theorem wide_group (x : FVec Ideal S8192x3584 .bf16) (w : FVec Ideal S1x3584 .bf16) (y : S8192x3584.Idx) :
    (code (Cert.normGroup (n := 8192) x w (y 0) (Fin.ofNat 28 ((y 1).val / 128)).val (Fin.ofNat 128 (y 1).val))
      (top (Cert.normGroup (n := 8192) x w (y 0) (Fin.ofNat 28 ((y 1).val / 128)).val))
      * scale (top (Cert.normGroup (n := 8192) x w (y 0) (Fin.ofNat 28 ((y 1).val / 128)).val)) : EReal) = Cert.normWide (n := 8192) x w y := by
  rw [value_eq, group_eq]
  rfl

/-- The codes. -/
theorem final2 (c : Dev nD) : (dats m 0 c).arrAt 2 cfg0.N = Cert.normCodes (n := 8192) (X m c) (W m c) := by
  refine (dats m 0 c).arrAt_eq_of_after_last 2 t0_0 (by decide +kernel) _ fun y => ?_
  blk_simp
  rw [after0_2]
  unfold out0_2
  rw [pay10_eq, pay11_eq, pay12_eq]
  have hg := pay6_apply (X m c) (W m c)
  have ht := pay7_apply (X m c) (W m c)
  have he := pay1_apply (X m c) (W m c)
  generalize k0_pay6 (F := Ideal) (X m c) (W m c) = G at hg ht he ⊢
  generalize k0_pay7 (F := Ideal) (X m c) (W m c) = T at ht he ⊢
  generalize k0_pay8 (F := Ideal) (X m c) (W m c) = B at he ⊢
  generalize k0_pay9 (F := Ideal) (X m c) (W m c) = E at he ⊢
  have h := pay4_apply G T B E he
  generalize k0_pay4 (F := Ideal) G B E 0#32 = A at h ⊢
  frame_out
  refine (h _).trans ?_
  rw [hg, ht]
  exact codes_group _ _ y

/-- The scales. -/
theorem final3 (c : Dev nD) : (dats m 0 c).arrAt 3 cfg0.N = Cert.normScales (n := 8192) (X m c) (W m c) := by
  refine (dats m 0 c).arrAt_eq_of_after_last 3 t0_0 (by decide +kernel) _ fun y => ?_
  blk_simp
  rw [after0_3]
  unfold out0_3
  rw [pay11_eq, pay12_eq]
  have ht := pay7_apply (X m c) (W m c)
  have he := pay1_apply (X m c) (W m c)
  generalize k0_pay7 (F := Ideal) (X m c) (W m c) = T at ht he ⊢
  generalize k0_pay8 (F := Ideal) (X m c) (W m c) = B at he ⊢
  generalize k0_pay9 (F := Ideal) (X m c) (W m c) = E at he ⊢
  have h := pay2_apply T B E he
  generalize k0_pay2 (F := Ideal) B E 0#32 = A at h ⊢
  frame_out
  refine (h _).trans ?_
  rw [ht]
  rfl

/-- The widened codes. -/
theorem final4 (c : Dev nD) : (dats m 0 c).arrAt 4 cfg0.N = Cert.normWide (n := 8192) (X m c) (W m c) := by
  refine (dats m 0 c).arrAt_eq_of_after_last 4 t0_0 (by decide +kernel) _ fun y => ?_
  blk_simp
  rw [after0_4]
  unfold out0_4
  rw [pay10_eq, pay11_eq, pay12_eq]
  have hg := pay6_apply (X m c) (W m c)
  have ht := pay7_apply (X m c) (W m c)
  have he := pay1_apply (X m c) (W m c)
  generalize k0_pay6 (F := Ideal) (X m c) (W m c) = G at hg ht he ⊢
  generalize k0_pay7 (F := Ideal) (X m c) (W m c) = T at ht he ⊢
  generalize k0_pay8 (F := Ideal) (X m c) (W m c) = B at he ⊢
  generalize k0_pay9 (F := Ideal) (X m c) (W m c) = E at he ⊢
  have h := pay5_apply G T B E he
  generalize k0_pay5 (F := Ideal) G B E 0#32 = A at h ⊢
  frame_out
  refine (h _).trans ?_
  rw [hg, ht]
  exact wide_group _ _ y
end

end Cert.NormRefIdeal.Body
end
-- ==== Proof.NormClaims.lean ====
module

public import proofs.«01_k».proof.Defs
public import proofs.«01_k».proof.Proof.Gen.Norm.Frame
public import proofs.«01_k».proof.Proof.NormValue
public import proofs.«01_k».proof.Proof.NormRef
public import Idealize.ShloMosaic.Lib.Claim

/-! The claim about the values of the normalisation. -/

@[expose] public section

set_option maxRecDepth 16384

noncomputable section

namespace Cert.NormClaims

open Idealize.ShloMosaic Idealize.ShloMosaic.TcCoe Idealize.SL.Sem

/-- The kernel reads its rows and its weights through reshapes of its arguments. -/
theorem entry_rows (m : (ℓ : Loc Cert.NormIdeal.nD Cert.NormIdeal.τ Cert.NormIdeal.sig) → Buf (Elt Ideal) ℓ)
    (c : Dev Cert.NormIdeal.nD) : Cert.NormIdeal.Gen.V m c Cert.NormIdeal.main_v0
      = shapeCast Cert.NormIdeal.S8192x3584 (m ((c.tc : Thread _ _).loc Cert.NormIdeal.main_arg0)) Cert.NormIdeal.Gen.shapeCasts_S4x2048x3584_S8192x3584 := by
  entry_read
  rfl
theorem entry_weights (m : (ℓ : Loc Cert.NormIdeal.nD Cert.NormIdeal.τ Cert.NormIdeal.sig) → Buf (Elt Ideal) ℓ)
    (c : Dev Cert.NormIdeal.nD) : Cert.NormIdeal.Gen.V m c Cert.NormIdeal.main_v1
      = shapeCast Cert.NormIdeal.S1x3584 (m ((c.tc : Thread _ _).loc Cert.NormIdeal.main_arg1)) Cert.NormIdeal.Gen.shapeCasts_S3584_S1x3584 := by
  entry_read
  rfl

/-- So does the reference. -/
theorem entry_rows_ref (m : (ℓ : Loc Cert.NormRefIdeal.nD Cert.NormRefIdeal.τ Cert.NormRefIdeal.sig) → Buf (Elt Ideal) ℓ)
    (c : Dev Cert.NormRefIdeal.nD) : Cert.NormRefIdeal.Gen.V m c Cert.NormRefIdeal.main_v0
      = shapeCast Cert.NormIdeal.S8192x3584 (m ((c.tc : Thread _ _).loc Cert.NormRefIdeal.main_arg0)) Cert.NormIdeal.Gen.shapeCasts_S4x2048x3584_S8192x3584 := by
  entry_read
  rfl
theorem entry_weights_ref (m : (ℓ : Loc Cert.NormRefIdeal.nD Cert.NormRefIdeal.τ Cert.NormRefIdeal.sig) → Buf (Elt Ideal) ℓ)
    (c : Dev Cert.NormRefIdeal.nD) : Cert.NormRefIdeal.Gen.V m c Cert.NormRefIdeal.main_v1
      = shapeCast Cert.NormIdeal.S1x3584 (m ((c.tc : Thread _ _).loc Cert.NormRefIdeal.main_arg1)) Cert.NormIdeal.Gen.shapeCasts_S3584_S1x3584 := by
  entry_read
  rfl

/-- Over the reals the kernel and its reference, run on equal arguments, end with equal results: the codes, the scales
and the widened codes. -/
theorem algebraic : Cert.algebraic_NormIdeal_NormRefIdeal (hNormIdeal := Cert.NormIdeal.Gen.facts)
    (hNormRefIdeal := Cert.NormRefIdeal.Gen.facts) := by
  intro m g m' g' _ hargs
  refine ⟨_, _, _, Cert.NormIdeal.Value.run_blocks m g, ?_⟩
  refine (θ_run (Cert.NormRefIdeal.defs (F := Ideal)) _ _).mono (fun r h c => ?_) (Cert.NormRefIdeal.Value.run_blocks m' g')
  obtain ⟨h0, h1, h2, hrest⟩ := h c
  obtain ⟨e0, e1⟩ := hargs c
  have ex : Cert.NormRefIdeal.Body.X m' c = Cert.NormIdeal.Body.X m c :=
    (entry_rows_ref m' c).trans ((congrArg (fun z => shapeCast Cert.NormIdeal.S8192x3584 z _) e0).trans (entry_rows m c).symm)
  have ew : Cert.NormRefIdeal.Body.W m' c = Cert.NormIdeal.Body.W m c :=
    (entry_weights_ref m' c).trans ((congrArg (fun z => shapeCast Cert.NormIdeal.S1x3584 z _) e1).trans (entry_weights m c).symm)
  have e {α : Type} (f : FVec Ideal Cert.NormIdeal.S8192x3584 .bf16 → FVec Ideal Cert.NormIdeal.S1x3584 .bf16 → α) :
      f (Cert.NormRefIdeal.Body.X m' c) (Cert.NormRefIdeal.Body.W m' c) = f (Cert.NormIdeal.Body.X m c) (Cert.NormIdeal.Body.W m c) :=
    congr (congrArg f ex) ew
  exact ⟨h0.trans ((Cert.NormRefIdeal.Body.final2 m' c).trans ((e (Cert.normCodes (n := 8192))).trans (Cert.NormIdeal.Body.final2 m c).symm)),
    h1.trans ((Cert.NormRefIdeal.Body.final3 m' c).trans ((e (Cert.normScales (n := 8192))).trans (Cert.NormIdeal.Body.final3 m c).symm)),
    h2.trans ((Cert.NormRefIdeal.Body.final4 m' c).trans ((e (Cert.normWide (n := 8192))).trans (Cert.NormIdeal.Body.final4 m c).symm)), hrest⟩

end Cert.NormClaims

end
-- ==== Proof.InBits.lean ====
module

public import proofs.«01_k».proof.Proof.Gen.InProj.Frame
public import proofs.«01_k».proof.Proof.Gen.InProj.Skeleton
public import proofs.«01_k».proof.Proof.Gen.InProj.Points
public import proofs.«01_k».proof.Proof.Gen.InProj.Launch
public import Idealize.ShloMosaic.Lib.Claim
public import Idealize.ShloMosaic.Lib.Pipeline.FrameBody

/-! The input projection, at any floats, terminates without a fault and leaves its arguments unchanged; nothing is said of
what it leaves in its results. -/

@[expose] public section

set_option maxRecDepth 16384

noncomputable section

namespace Cert.InProj.Body

open Cert.InProj Cert.InProj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_InProj`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 ≤ 36 — decided over the grid. -/
theorem hcond0_0 : ∀ t : Fin cfg0.N, cond0_0 (grid0.coords t) ↔ t.val % 42 ≤ 36 :=
  (by decide +kernel : ∀ t : Fin grid0.N, cond0_0 (grid0.coords t) ↔ t.val % 42 ≤ 36)

/-- The condition of the body's `scf.if` 1 (`k0_h2`), from the grid coordinates (the skeleton's scalar
    chain substituted). -/
abbrev cond0_1 (i : grid0.Coords) : Prop := k0_cond2 i = 1#1
/-- It holds at the points whose coordinates have 37 ≤ i1 — decided over the grid. -/
theorem hcond0_1 : ∀ t : Fin cfg0.N, cond0_1 (grid0.coords t) ↔ 37 ≤ t.val % 42 :=
  (by decide +kernel : ∀ t : Fin grid0.N, cond0_1 (grid0.coords t) ↔ 37 ≤ t.val % 42)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S28x83 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x37 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)

-- (the run's proof term is large: checking it walks past the default budget)
set_option maxHeartbeats 1000000 in
/-- The body's triple IN CASE A (`scf.if` 0 taken, `scf.if` 1 not taken: points 0, 1, … 330: 296 of 336): on whole staging memrefs — the inputs' at their contents,
    the FORGOTTEN outputs' (4, 5, 6, 7) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : cond0_0 i) (hc1 : ¬cond0_1 i)
    (x0 : Vec F S28x83 .f32) (x1 : Vec F S1024x3584 .bf16) (x2 : Vec F S3584x128 .fp8e4m3) (x3 : Vec F S3584x128 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

-- (the run's proof term is large: checking it walks past the default budget)
set_option maxHeartbeats 1000000 in
/-- The body's triple IN CASE B (`scf.if` 0 not taken, `scf.if` 1 taken: points 37, 38, … 335: 40 of 336): on whole staging memrefs — the inputs' at their contents,
    the FORGOTTEN outputs' (4, 5, 6, 7) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : ¬cond0_0 i) (hc1 : cond0_1 i)
    (x0 : Vec F S28x83 .f32) (x1 : Vec F S1024x3584 .bf16) (x2 : Vec F S3584x128 .fp8e4m3) (x3 : Vec F S3584x128 .fp8e4m3) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    iexists _, _; isplitr; swap; · iexact H7
    ipureintro; rfl

/-! ## The pipeline's proof data -/

/-- The output windows this certificate FORGETS (4, 5, 6, 7): nothing reads what the kernel leaves in them, so nothing
    of it is named (Lib/Pipeline/Dat.lean `Dat.toRForget`). -/
def forgets0 : Fin 8 → Bool := fun w => w.val == 4 || w.val == 5 || w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 336 := lt_of_lt_of_eq t.isLt (show cfg0.N = 336 from N_0)
  by_cases h0 : t.val % 42 ≤ 36
  · by_cases h1 : 37 ≤ t.val % 42
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h1 : 37 ≤ t.val % 42
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rel m ρ (fun c => (dats m 0 c).toRForget forgets0) (A_eq m) (run_main m ρ)

/-- The argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.InProj.Body

end
-- ==== Proof.InPoints.lean ====
module

public import proofs.«01_k».proof.Proof.Gen.InProjIdeal.Frame
public import proofs.«01_k».proof.Proof.Gen.InProjIdeal.Skeleton
public import proofs.«01_k».proof.Proof.Gen.InProjIdeal.Points
public import proofs.«01_k».proof.Proof.Gen.InProjIdeal.Launch

/-! When each of the two branches of the input projection's body is taken, and the memrefs its windows stage. -/

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points whose coordinates have i1 ≤ 36 — decided over the grid. -/
theorem hcond0_0 : ∀ t : Fin cfg0.N, cond0_0 (grid0.coords t) ↔ t.val % 42 ≤ 36 :=
  (by decide +kernel : ∀ t : Fin grid0.N, cond0_0 (grid0.coords t) ↔ t.val % 42 ≤ 36)

/-- The condition of the body's `scf.if` 1 (`k0_h2`), from the grid coordinates (the skeleton's scalar
    chain substituted). -/
abbrev cond0_1 (i : grid0.Coords) : Prop := k0_cond2 i = 1#1
/-- It holds at the points whose coordinates have 37 ≤ i1 — decided over the grid. -/
theorem hcond0_1 : ∀ t : Fin cfg0.N, cond0_1 (grid0.coords t) ↔ 37 ≤ t.val % 42 :=
  (by decide +kernel : ∀ t : Fin grid0.N, cond0_1 (grid0.coords t) ↔ 37 ≤ t.val % 42)

/-! ## The kernel body on any staging memrefs: its current staging memrefs -/

/-- Each window's current staging memref at point `t`, spelled as the pipeline passes it (`bodyAt0`), and its wholeness. -/
abbrev ms0_0 (t : Fin cfg0.N) : Memref sig .tc .smem S28x83 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3584x128 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3584x128 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x37 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x128 .bf16 := win0_7.stage (cfg0.slots t 7)
abbrev hs0_7 (t : Fin cfg0.N) : (ms0_7 t).IsWhole := hstage0_7 ((cfg0.slots t 7).cast nbuf0_7)

end Cert.InProjIdeal.Body

end
-- ==== Proof.InRunA.lean ====
module

public import proofs.«01_k».proof.Proof.InPoints

/-! The body of the input projection run at a point of the feed-forward. -/

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1400000 in
/-- What the body leaves, at a point whose column block is one of the 37 of the feed-forward, in the buffers of codes, of
scales and of widened codes, as pieces written over what they held; with the proof that the body, run on whole staging
memrefs, ends with them written and every other buffer as it was. The buffer of scales is read before it is written. -/
noncomputable def runA (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : cond0_0 i) (hc1 : ¬cond0_1 i)
    (x0 : Vec F S28x83 .f32) (x1 : Vec F S1024x3584 .bf16) (x2 : Vec F S3584x128 .fp8e4m3) (x3 : Vec F S3584x128 .fp8e4m3) (y6 : Vec F S1024x37 .f32) :
    Σ' (L5 : List (View.Piece (Elt F) S1024x128 .fp8e4m3)) (L6 : List (View.Piece (Elt F) S1024x37 .f32)), { L7 : List (View.Piece (Elt F) S1024x128 .bf16) //
      ∀ (E : Set ℕ) (K : PUnit → sProp 𝕄) (d4 : Vec F S1024x256 .bf16),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4 ∗ (∃ d, owns (c : Thread nD τ) arg7 fullShare d) ∗ owns (c : Thread nD τ) arg8 fullShare y6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare d4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K } := by
  refine ⟨?_, ?_, ?_, fun E K d4 => ?run⟩
  case run =>
    simp only [cc0_in_proj_eq_skeleton]; unfold cc0_in_proj_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3
    obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact hf4
      iexact H4
    isplitl [H5]
    · iexists _; iexact H5
    isplitl [H6]
    · iexists _; iexact H6
    iexists _; iexact H7

end Cert.InProjIdeal.Body

end
-- ==== Proof.InRunB.lean ====
module

public import proofs.«01_k».proof.Proof.InRunA

/-! The body of the input projection run at a point of the queries, keys and values. -/

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1400000 in
/-- What the body leaves, at a point whose column block is one of the five of the queries, keys and values, in the buffer
of projections, as pieces written over what it held; with the proof that the body, run on whole staging memrefs, ends
with it written and every other buffer as it was. -/
noncomputable def runB (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : ¬cond0_0 i) (hc1 : cond0_1 i)
    (x0 : Vec F S28x83 .f32) (x1 : Vec F S1024x3584 .bf16) (x2 : Vec F S3584x128 .fp8e4m3) (x3 : Vec F S3584x128 .fp8e4m3) :
    { L : List (View.Piece (Elt F) S1024x256 .bf16) //
      ∀ (E : Set ℕ) (K : PUnit → sProp 𝕄) (d5 : Vec F S1024x128 .fp8e4m3) (d6 : Vec F S1024x37 .f32) (d7 : Vec F S1024x128 .bf16),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare d5 ∗ owns (c : Thread nD τ) arg8 fullShare d6 ∗ owns (c : Thread nD τ) arg9 fullShare d7
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)
                ∗ owns (c : Thread nD τ) arg7 fullShare d5 ∗ owns (c : Thread nD τ) arg8 fullShare d6 ∗ owns (c : Thread nD τ) arg9 fullShare d7) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K } := by
  refine ⟨?_, fun E K d5 d6 d7 => ?run⟩
  case run =>
    simp only [cc0_in_proj_eq_skeleton]; unfold cc0_in_proj_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    isplitl [H5]
    · iexists _; isplitr; · ipureintro; exact hf5
      iexact H5
    isplitl [H6]
    · iexists _; isplitr; · ipureintro; exact hf6
      iexact H6
    iexists _; isplitr; · ipureintro; exact hf7
    iexact H7

end Cert.InProjIdeal.Body

end
-- ==== Proof.InData.lean ====
module

public import proofs.«01_k».proof.Proof.InRunB
public import Idealize.ShloMosaic.Lib.Claim
public import Idealize.ShloMosaic.Lib.Pipeline.FrameBody
public import Idealize.ShloMosaic.Lib.Pipeline.ArrRel

/-! What the buffers of the input projection hold after each point, as a relation between what the body is handed and
what it leaves; the body's obligation; the run of the whole program. -/

@[expose] public section

set_option maxRecDepth 16384

noncomputable section

namespace Cert.InProjIdeal.Body

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer of projections. -/
abbrev VO4 : View sig .tc .vmem S1024x256 .bf16 := (Memref.whole cc0_stg4_0 : Memref sig .tc .vmem S1024x256 .bf16).view
/-- A whole buffer of codes. -/
abbrev VO5 : View sig .tc .vmem S1024x128 .fp8e4m3 := (Memref.whole cc0_stg5_0 : Memref sig .tc .vmem S1024x128 .fp8e4m3).view
/-- A whole buffer of scales. -/
abbrev VO6 : View sig .tc .vmem S1024x37 .f32 := (Memref.whole cc0_stg6_0 : Memref sig .tc .vmem S1024x37 .f32).view
/-- A whole buffer of widened codes. -/
abbrev VO7 : View sig .tc .vmem S1024x128 .bf16 := (Memref.whole cc0_stg7_0 : Memref sig .tc .vmem S1024x128 .bf16).view

/-- What the body writes into the buffer of projections covers it. -/
theorem cover4 (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : ¬cond0_0 i) (hc1 : cond0_1 i)
    (x0 : Vec F S28x83 .f32) (x1 : Vec F S1024x3584 .bf16) (x2 : Vec F S3584x128 .fp8e4m3) (x3 : Vec F S3584x128 .fp8e4m3) (y : S1024x256.Idx) :
    ∃ pc ∈ (runB c i arg2 harg2 arg3 harg3 arg4 harg4 arg5 harg5 arg6 harg6 arg7 harg7 arg8 harg8 arg9 harg9 hc0 hc1 x0 x1 x2 x3).1, y ∈ pc.1.set :=
  View.cover_of_tiledL (runB c i arg2 harg2 arg3 harg3 arg4 harg4 arg5 harg5 arg6 harg6 arg7 harg7 arg8 harg8 arg9 harg9 hc0 hc1 x0 x1 x2 x3).1 S1024x256.size (by sl_kernel_rfl) y

/-- What the body leaves in the buffer of projections. -/
def out4 (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : ¬cond0_0 i) (hc1 : cond0_1 i)
    (x0 : Vec F S28x83 .f32) (x1 : Vec F S1024x3584 .bf16) (x2 : Vec F S3584x128 .fp8e4m3) (x3 : Vec F S3584x128 .fp8e4m3) : Vec F S1024x256 .bf16 :=
  VO4.read (Elt F) (VO4.writes (Elt F) VO4.junk (runB c i arg2 harg2 arg3 harg3 arg4 harg4 arg5 harg5 arg6 harg6 arg7 harg7 arg8 harg8 arg9 harg9 hc0 hc1 x0 x1 x2 x3).1)

/-- What the body writes into the buffer of codes covers it. -/
theorem cover5 (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : cond0_0 i) (hc1 : ¬cond0_1 i)
    (x0 : Vec F S28x83 .f32) (x1 : Vec F S1024x3584 .bf16) (x2 : Vec F S3584x128 .fp8e4m3) (x3 : Vec F S3584x128 .fp8e4m3) (y6 : Vec F S1024x37 .f32) (y : S1024x128.Idx) :
    ∃ pc ∈ (runA c i arg2 harg2 arg3 harg3 arg4 harg4 arg5 harg5 arg6 harg6 arg7 harg7 arg8 harg8 arg9 harg9 hc0 hc1 x0 x1 x2 x3 y6).1, y ∈ pc.1.set :=
  View.cover_of_tiledL (runA c i arg2 harg2 arg3 harg3 arg4 harg4 arg5 harg5 arg6 harg6 arg7 harg7 arg8 harg8 arg9 harg9 hc0 hc1 x0 x1 x2 x3 y6).1 S1024x128.size (by sl_kernel_rfl) y

/-- What the body leaves in the buffer of codes. -/
def out5 (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : cond0_0 i) (hc1 : ¬cond0_1 i)
    (x0 : Vec F S28x83 .f32) (x1 : Vec F S1024x3584 .bf16) (x2 : Vec F S3584x128 .fp8e4m3) (x3 : Vec F S3584x128 .fp8e4m3) (y6 : Vec F S1024x37 .f32) : Vec F S1024x128 .fp8e4m3 :=
  VO5.read (Elt F) (VO5.writes (Elt F) VO5.junk (runA c i arg2 harg2 arg3 harg3 arg4 harg4 arg5 harg5 arg6 harg6 arg7 harg7 arg8 harg8 arg9 harg9 hc0 hc1 x0 x1 x2 x3 y6).1)

/-- What the body writes into the buffer of scales covers it. -/
theorem cover6 (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : cond0_0 i) (hc1 : ¬cond0_1 i)
    (x0 : Vec F S28x83 .f32) (x1 : Vec F S1024x3584 .bf16) (x2 : Vec F S3584x128 .fp8e4m3) (x3 : Vec F S3584x128 .fp8e4m3) (y6 : Vec F S1024x37 .f32) (y : S1024x37.Idx) :
    ∃ pc ∈ (runA c i arg2 harg2 arg3 harg3 arg4 harg4 arg5 harg5 arg6 harg6 arg7 harg7 arg8 harg8 arg9 harg9 hc0 hc1 x0 x1 x2 x3 y6).2.1, y ∈ pc.1.set :=
  View.cover_of_tiledL (runA c i arg2 harg2 arg3 harg3 arg4 harg4 arg5 harg5 arg6 harg6 arg7 harg7 arg8 harg8 arg9 harg9 hc0 hc1 x0 x1 x2 x3 y6).2.1 S1024x37.size (by sl_kernel_rfl) y

/-- What the body leaves in the buffer of scales. -/
def out6 (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : cond0_0 i) (hc1 : ¬cond0_1 i)
    (x0 : Vec F S28x83 .f32) (x1 : Vec F S1024x3584 .bf16) (x2 : Vec F S3584x128 .fp8e4m3) (x3 : Vec F S3584x128 .fp8e4m3) (y6 : Vec F S1024x37 .f32) : Vec F S1024x37 .f32 :=
  VO6.read (Elt F) (VO6.writes (Elt F) VO6.junk (runA c i arg2 harg2 arg3 harg3 arg4 harg4 arg5 harg5 arg6 harg6 arg7 harg7 arg8 harg8 arg9 harg9 hc0 hc1 x0 x1 x2 x3 y6).2.1)

/-- What the body writes into the buffer of widened codes covers it. -/
theorem cover7 (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : cond0_0 i) (hc1 : ¬cond0_1 i)
    (x0 : Vec F S28x83 .f32) (x1 : Vec F S1024x3584 .bf16) (x2 : Vec F S3584x128 .fp8e4m3) (x3 : Vec F S3584x128 .fp8e4m3) (y6 : Vec F S1024x37 .f32) (y : S1024x128.Idx) :
    ∃ pc ∈ (runA c i arg2 harg2 arg3 harg3 arg4 harg4 arg5 harg5 arg6 harg6 arg7 harg7 arg8 harg8 arg9 harg9 hc0 hc1 x0 x1 x2 x3 y6).2.2.1, y ∈ pc.1.set :=
  View.cover_of_tiledL (runA c i arg2 harg2 arg3 harg3 arg4 harg4 arg5 harg5 arg6 harg6 arg7 harg7 arg8 harg8 arg9 harg9 hc0 hc1 x0 x1 x2 x3 y6).2.2.1 S1024x128.size (by sl_kernel_rfl) y

/-- What the body leaves in the buffer of widened codes. -/
def out7 (c : Dev nD) (i : grid0.Coords) (arg2 : Memref sig .tc .smem S28x83 .f32) (harg2 : arg2.IsWhole) (arg3 : Memref sig .tc .vmem S1024x3584 .bf16) (harg3 : arg3.IsWhole) (arg4 : Memref sig .tc .vmem S3584x128 .fp8e4m3) (harg4 : arg4.IsWhole) (arg5 : Memref sig .tc .vmem S3584x128 .fp8e4m3) (harg5 : arg5.IsWhole) (arg6 : Memref sig .tc .vmem S1024x256 .bf16) (harg6 : arg6.IsWhole) (arg7 : Memref sig .tc .vmem S1024x128 .fp8e4m3) (harg7 : arg7.IsWhole) (arg8 : Memref sig .tc .vmem S1024x37 .f32) (harg8 : arg8.IsWhole) (arg9 : Memref sig .tc .vmem S1024x128 .bf16) (harg9 : arg9.IsWhole) (hc0 : cond0_0 i) (hc1 : ¬cond0_1 i)
    (x0 : Vec F S28x83 .f32) (x1 : Vec F S1024x3584 .bf16) (x2 : Vec F S3584x128 .fp8e4m3) (x3 : Vec F S3584x128 .fp8e4m3) (y6 : Vec F S1024x37 .f32) : Vec F S1024x128 .bf16 :=
  VO7.read (Elt F) (VO7.writes (Elt F) VO7.junk (runA c i arg2 harg2 arg3 harg3 arg4 harg4 arg5 harg5 arg6 harg6 arg7 harg7 arg8 harg8 arg9 harg9 hc0 hc1 x0 x1 x2 x3 y6).2.2.1)

variable (m : (ℓ : Loc nD τ sig) → Buf (Elt F) ℓ) (ρ : Dev nD → PrngReg)

/-- What the body leaves in the buffer of projections at point `t`, one of the queries, keys and values. -/
def at4 (c : Dev nD) (t : Fin cfg0.N) (h : ¬t.val % 42 ≤ 36) : Vec F S1024x256 .bf16 :=
  out4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h' => h ((hcond0_0 t).mp h')) ((hcond0_1 t).mpr (by omega)) (iblk m c 0 t) (iblk m c 1 t) (iblk m c 2 t) (iblk m c 3 t)
/-- What the body leaves in the buffer of codes at point `t`, one of the feed-forward, where the buffer of scales held `y6`. -/
def at5 (c : Dev nD) (t : Fin cfg0.N) (h : t.val % 42 ≤ 36) (y6 : Vec F S1024x37 .f32) : Vec F S1024x128 .fp8e4m3 :=
  out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (fun h' => absurd ((hcond0_1 t).mp h') (by omega)) (iblk m c 0 t) (iblk m c 1 t) (iblk m c 2 t) (iblk m c 3 t) y6
/-- What the body leaves in the buffer of scales at point `t`, one of the feed-forward, where the buffer of scales held `y6`. -/
def at6 (c : Dev nD) (t : Fin cfg0.N) (h : t.val % 42 ≤ 36) (y6 : Vec F S1024x37 .f32) : Vec F S1024x37 .f32 :=
  out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (fun h' => absurd ((hcond0_1 t).mp h') (by omega)) (iblk m c 0 t) (iblk m c 1 t) (iblk m c 2 t) (iblk m c 3 t) y6
/-- What the body leaves in the buffer of widened codes at point `t`, one of the feed-forward, where the buffer of scales held `y6`. -/
def at7 (c : Dev nD) (t : Fin cfg0.N) (h : t.val % 42 ≤ 36) (y6 : Vec F S1024x37 .f32) : Vec F S1024x128 .bf16 :=
  out7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h) (fun h' => absurd ((hcond0_1 t).mp h') (by omega)) (iblk m c 0 t) (iblk m c 1 t) (iblk m c 2 t) (iblk m c 3 t) y6

/-- What the body may leave in each window's buffer at point `t`, `X`, given what it was handed there, `Y`: an input's
buffer as it was; the projections where the point is one of the queries, keys and values, else the buffer as it was; the
codes, scales and widened codes where the point is one of the feed-forward, else the buffers as they were. -/
def step (c : Dev nD) (w : Fin cfg0.W) (t : Fin cfg0.N) (Y X : (cfg0.win w).block.Idx → Elt F (cfg0.win w).elt) : Prop :=
  match w with
  | ⟨0, _⟩ => X = Y
  | ⟨1, _⟩ => X = Y
  | ⟨2, _⟩ => X = Y
  | ⟨3, _⟩ => X = Y
  | ⟨4, _⟩ => (t.val % 42 ≤ 36 → X = Y) ∧ ∀ h : ¬t.val % 42 ≤ 36, X = at4 m c t h
  | ⟨5, _⟩ => (∀ h : t.val % 42 ≤ 36, ∃ y6, X = at5 m c t h y6) ∧ (¬t.val % 42 ≤ 36 → X = Y)
  | ⟨6, _⟩ => (∀ h : t.val % 42 ≤ 36, X = at6 m c t h Y) ∧ (¬t.val % 42 ≤ 36 → X = Y)
  | ⟨7, _⟩ => (∀ h : t.val % 42 ≤ 36, ∃ y6, X = at7 m c t h y6) ∧ (¬t.val % 42 ≤ 36 → X = Y)

/-- The proof data of the pipeline: the arrays as the region finds them, and `step`. -/
def rdat (c : Dev nD) : Pipeline.RDat τ (Elt F) Unit ℕ (UR sig nD τ) ℕ cfg0 c where
  A w := V m c (Pipeline.arrRef spec0 w)
  after := step m c
  Φ _ := Pipeline.ΦA spec0 c
  q w := Pipeline.shareOf spec0 w
  owed _ := 0

/-- The arrays are the region's. -/
theorem A_eq (c : Dev nD) (w : Fin cfg0.W) : (rdat m c).A w = V m c (Pipeline.arrRef spec0 w) := by
  dsimp only [rdat]

/-- Input window 0's buffer holds its block wherever the body is handed it. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold Pipeline.RDat.fetched Pipeline.RDat.blockOf iblk; rw [A_eq]; try rfl)
/-- Input window 1's buffer holds its block wherever the body is handed it. -/
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold Pipeline.RDat.fetched Pipeline.RDat.blockOf iblk; rw [A_eq]; try rfl)
/-- Input window 2's buffer holds its block wherever the body is handed it. -/
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold Pipeline.RDat.fetched Pipeline.RDat.blockOf iblk; rw [A_eq]; try rfl)
/-- Input window 3's buffer holds its block wherever the body is handed it. -/
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold Pipeline.RDat.fetched Pipeline.RDat.blockOf iblk; rw [A_eq]; try rfl)

/-- What the body is called with at point `t`, the windows one by one, -/
def bodyPre (c : Dev nD) (t : Fin cfg0.N) (x0 : Vec F S28x83 .f32) (x1 : Vec F S1024x3584 .bf16) (x2 : Vec F S3584x128 .fp8e4m3) (x3 : Vec F S3584x128 .fp8e4m3) (x4 : Vec F S1024x256 .bf16) (x5 : Vec F S1024x128 .fp8e4m3) (x6 : Vec F S1024x37 .f32) (x7 : Vec F S1024x128 .bf16) : sProp 𝕄 :=
  iprop((rdat m c).Φ t.castSucc ∗ (rdat m c).owesAt () t.castSucc
    ∗ owns (c : Thread nD τ) (ms0_0 t) fullShare x0
    ∗ owns (c : Thread nD τ) (ms0_1 t) fullShare x1
    ∗ owns (c : Thread nD τ) (ms0_2 t) fullShare x2
    ∗ owns (c : Thread nD τ) (ms0_3 t) fullShare x3
    ∗ owns (c : Thread nD τ) (ms0_4 t) fullShare x4
    ∗ owns (c : Thread nD τ) (ms0_5 t) fullShare x5
    ∗ owns (c : Thread nD τ) (ms0_6 t) fullShare x6
    ∗ owns (c : Thread nD τ) (ms0_7 t) fullShare x7)

/-- and what it returns. -/
def bodyPost (c : Dev nD) (t : Fin cfg0.N) (x0 : Vec F S28x83 .f32) (x1 : Vec F S1024x3584 .bf16) (x2 : Vec F S3584x128 .fp8e4m3) (x3 : Vec F S3584x128 .fp8e4m3) (x4 : Vec F S1024x256 .bf16) (x5 : Vec F S1024x128 .fp8e4m3) (x6 : Vec F S1024x37 .f32) (x7 : Vec F S1024x128 .bf16) : sProp 𝕄 :=
  iprop((rdat m c).Φ t.succ ∗ (rdat m c).owesAt () t.succ
    ∗ (∃ X, ⌜step m c 0 t x0 X⌝ ∗ owns (c : Thread nD τ) (ms0_0 t) fullShare X)
    ∗ (∃ X, ⌜step m c 1 t x1 X⌝ ∗ owns (c : Thread nD τ) (ms0_1 t) fullShare X)
    ∗ (∃ X, ⌜step m c 2 t x2 X⌝ ∗ owns (c : Thread nD τ) (ms0_2 t) fullShare X)
    ∗ (∃ X, ⌜step m c 3 t x3 X⌝ ∗ owns (c : Thread nD τ) (ms0_3 t) fullShare X)
    ∗ (∃ X, ⌜step m c 4 t x4 X⌝ ∗ owns (c : Thread nD τ) (ms0_4 t) fullShare X)
    ∗ (∃ X, ⌜step m c 5 t x5 X⌝ ∗ owns (c : Thread nD τ) (ms0_5 t) fullShare X)
    ∗ (∃ X, ⌜step m c 6 t x6 X⌝ ∗ owns (c : Thread nD τ) (ms0_6 t) fullShare X)
    ∗ (∃ X, ⌜step m c 7 t x7 X⌝ ∗ owns (c : Thread nD τ) (ms0_7 t) fullShare X))

set_option maxHeartbeats 1600000 in
/-- The body at any point: the run of its case applies, and what it leaves is as `step` says. -/
theorem sound_body (c : Dev nD) (t : Fin cfg0.N) (x0 : Vec F S28x83 .f32) (x1 : Vec F S1024x3584 .bf16) (x2 : Vec F S3584x128 .fp8e4m3) (x3 : Vec F S3584x128 .fp8e4m3) (x4 : Vec F S1024x256 .bf16) (x5 : Vec F S1024x128 .fp8e4m3) (x6 : Vec F S1024x37 .f32) (x7 : Vec F S1024x128 .bf16)
    (e0 : x0 = iblk m c 0 t) (e1 : x1 = iblk m c 1 t) (e2 : x2 = iblk m c 2 t) (e3 : x3 = iblk m c 3 t) :
    bodyPre m c t x0 x1 x2 x3 x4 x5 x6 x7 ⊢ wp frame (wpE (defs₀ (F := F)) Variants.none c none) Set.univ (bodyAt0 t) (fun _ => bodyPost m c t x0 x1 x2 x3 x4 x5 x6 x7) := by
  subst e0 e1 e2 e3
  unfold bodyPre bodyPost bodyAt0
  rw [show (rdat m c).Φ t.succ = (rdat m c).Φ t.castSucc from rfl,
    show (rdat m c).owesAt () t.succ = (rdat m c).owesAt () t.castSucc from rfl]
  by_cases h0 : t.val % 42 ≤ 36
  · iintro ⟨HΦ, Ho, H0, H1, H2, H3, H4, H5, H6, H7⟩
    iapply ((runA c (grid0.coords t) _ _ _ _ _ _ _ _ _ _ _ _ _ _ _ _ ((hcond0_0 t).mpr h0) (fun h' => absurd ((hcond0_1 t).mp h') (by omega)) (iblk m c 0 t) (iblk m c 1 t) (iblk m c 2 t) (iblk m c 3 t) x6).2.2.2 Set.univ _ x4)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexists _; iexact H7
    iintro ⟨H0, H1, H2, H3, H4, ⟨%f5, H5⟩, ⟨%f6, H6⟩, ⟨%f7, H7⟩⟩
    isplitl [HΦ]; · iexact HΦ
    isplitl [Ho]; · iexact Ho
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact ⟨fun _ => rfl, fun h => absurd h0 h⟩
    isplitl [H5]
    · iexists (at5 m c t h0 x6); isplitr
      · ipureintro; exact ⟨fun _ => ⟨_, rfl⟩, fun h => absurd h0 h⟩
      unfold owns; iexists _; isplitr
      swap; · iexact H5
      ipureintro; unfold at5 out5; exact View.read_writes_of_cover _ _ _ _ _ (cover5 _ _ _ _ _ _ _ _ _ _ _ _ _ _ _ _ _ _ _ _ _ _ _ _ _)
    isplitl [H6]
    · iexists (at6 m c t h0 x6); isplitr
      · ipureintro; exact ⟨fun _ => rfl, fun h => absurd h0 h⟩
      unfold owns; iexists _; isplitr
      swap; · iexact H6
      ipureintro; unfold at6 out6; exact View.read_writes_of_cover _ _ _ _ _ (cover6 _ _ _ _ _ _ _ _ _ _ _ _ _ _ _ _ _ _ _ _ _ _ _ _ _)
    · iexists (at7 m c t h0 x6); isplitr
      · ipureintro; exact ⟨fun _ => ⟨_, rfl⟩, fun h => absurd h0 h⟩
      unfold owns; iexists _; isplitr
      swap; · iexact H7
      ipureintro; unfold at7 out7; exact View.read_writes_of_cover _ _ _ _ _ (cover7 _ _ _ _ _ _ _ _ _ _ _ _ _ _ _ _ _ _ _ _ _ _ _ _ _)
  · iintro ⟨HΦ, Ho, H0, H1, H2, H3, H4, H5, H6, H7⟩
    iapply ((runB c (grid0.coords t) _ _ _ _ _ _ _ _ _ _ _ _ _ _ _ _ (fun h' => h0 ((hcond0_0 t).mp h')) ((hcond0_1 t).mpr (by omega)) (iblk m c 0 t) (iblk m c 1 t) (iblk m c 2 t) (iblk m c 3 t)).2 Set.univ _ x5 x6 x7)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [H7]; · iexact H7
    iintro ⟨H0, H1, H2, H3, ⟨%f4, H4⟩, H5, H6, H7⟩
    isplitl [HΦ]; · iexact HΦ
    isplitl [Ho]; · iexact Ho
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    isplitl [H3]
    · iexists _; isplitr; swap; · iexact H3
      ipureintro; exact rfl
    isplitl [H4]
    · iexists (at4 m c t h0); isplitr
      · ipureintro; exact ⟨fun h => absurd h h0, fun _ => rfl⟩
      unfold owns; iexists _; isplitr
      swap; · iexact H4
      ipureintro; unfold at4 out4; exact View.read_writes_of_cover _ _ _ _ _ (cover4 _ _ _ _ _ _ _ _ _ _ _ _ _ _ _ _ _ _ _ _ _ _ _ _)
    isplitl [H5]
    · iexists _; isplitr; swap; · iexact H5
      ipureintro; exact ⟨fun h => absurd h h0, fun _ => rfl⟩
    isplitl [H6]
    · iexists _; isplitr; swap; · iexact H6
      ipureintro; exact ⟨fun h => absurd h h0, fun _ => rfl⟩
    · iexists _; isplitr; swap; · iexact H7
      ipureintro; exact ⟨fun h => absurd h h0, fun _ => rfl⟩

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t (Y 0) (Y 1) (Y 2) (Y 3) (Y 4) (Y 5) (Y 6) (Y 7) (finds0 m c t _ (hY 0)) (finds1 m c t _ (hY 1))
    (finds2 m c t _ (hY 2)) (finds3 m c t _ (hY 3))) rfl .rfl fun _ => .rfl

set_option backward.isDefEq.respectTransparency.types false in
/-- Every weakly fair execution of the program terminates with each array at contents that the proof data allow, every
other buffer as the region found it, and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := A_eq m) (hin := fun _ => .rfl) (hout := fun _ => .rfl)
    (hQ' := fun _ h => h)

/-- The argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 3 rfl).trans ((A_eq m c 3).trans (V_main_arg2 m c))⟩, h.2⟩) (run_main_quiescent m ρ)

end Cert.InProjIdeal.Body

end
-- ==== Proof.InWide.lean ====
module

public import proofs.«01_k».proof.Proof.InData
public import proofs.«01_k».proof.Proof.Concat

/-! The product of one block of the input projection: the rows of the activations times the columns of the widened
weights, two column tiles of 128 columns, each 28 row blocks of 128 fp8 rows times their scale. -/

@[expose] public section

set_option maxRecDepth 16384

noncomputable section

namespace Cert.InProjIdeal.Body

open Cert.InProjIdeal Cert.InProjIdeal.Gen Idealize.ShloMosaic Idealize.ShloMosaic.TcCoe Idealize.SL.Sem
open Cert.Blocks

/-- The column tile of the weights that the left half of the block at grid column `j` takes. -/
abbrev colL (j : ℕ) : ℕ := if j < 37 then 9 + j else 2 * (j - 37)
/-- The column tile that the right half takes. -/
abbrev colR (j : ℕ) : ℕ := if j < 37 then 46 + j else min (2 * (j - 37) + 1) 82

/-- The left tile as the kernel computes it. -/
theorem wordL : ∀ j : Fin 42, BitVec.toNat (Scalar.indexCast (Scalar.select (Scalar.cmpi .slt (BitVec.ofNat 32 j.val) 37#32)
    (Scalar.addi 9#32 (BitVec.ofNat 32 j.val)) (Scalar.muli 2#32 (Scalar.subi (BitVec.ofNat 32 j.val) 37#32)))) = colL j.val := by
  decide +kernel

/-- The right tile as the kernel computes it. -/
theorem wordR : ∀ j : Fin 42, BitVec.toNat (Scalar.indexCast (Scalar.minsi (Scalar.select (Scalar.cmpi .slt (BitVec.ofNat 32 j.val) 37#32)
    (Scalar.addi 46#32 (BitVec.ofNat 32 j.val)) (Scalar.addi (Scalar.muli 2#32 (Scalar.subi (BitVec.ofNat 32 j.val) 37#32)) 1#32)) 82#32)) = colR j.val := by
  decide +kernel

theorem colL_lt (j : ℕ) (h : j < 42) : colL j < 83 := by unfold colL; split <;> omega
theorem colR_lt (j : ℕ) (h : j < 42) : colR j < 83 := by unfold colR; split <;> omega

/-- The widened weight at row `y 0` of row block `n` and column `y 1` of a column tile whose weights are `x` and whose
scales are in column `q`. -/
abbrev wide (x0 : Vec Ideal S28x83 .f32) (x : Vec Ideal S3584x128 .fp8e4m3) (q n : ℕ) (y : S128x128.Idx) : EReal :=
  x (ix2 (Fin.ofNat 3584 (128 * n + (y 0).val)) (Fin.ofNat 128 (0 + (y 1).val))) * x0 (ix2 (Fin.ofNat 28 n) (Fin.ofNat 83 q))

set_option maxHeartbeats 2000000 in
/-- The left column tile of the widened weights, row block by row block. -/
theorem wide_left (c : Dev nD) (i : grid0.Coords) (arg2 : Memref sig .tc .smem S28x83 .f32) (harg2 : arg2.IsWhole)
    (arg4 : Memref sig .tc .vmem S3584x128 .fp8e4m3) (harg4 : arg4.IsWhole)
    (x0 : Vec Ideal S28x83 .f32) (x2 : Vec Ideal S3584x128 .fp8e4m3) (k : S3584x128.Idx) :
    runB.sl.r_62 c i arg2 harg2 arg4 harg4 x0 x2 k
      = wide x0 x2 (colL (i 1).val) ((k 0).val / 128) (ix2 (Fin.ofNat 128 (k 0).val) (k 1)) := by
  have h42 : (i 1).val < 42 := (i 1).isLt
  have hc := colL_lt _ h42
  have hw := wordL ⟨(i 1).val, h42⟩
  unfold runB.sl.r_62 k0_pay34
  refine concat_eq (t := S3584x128) (s₁ := S128x128) _ _ (G := wide x0 x2 (colL (i 1).val)) ?_ _ rfl 128 rfl k
    (ix2 (Fin.ofNat 128 (k 0).val) (k 1)) rfl ?_
  · repeat'
      first
      | exact trivial
      | refine And.intro ⟨_, rfl, fun y => ?_⟩ ?_
    all_goals
      sl_unfold_words
      unfold_payloads
      show (_ : EReal) * _ = _
      exact mul_eq (ld_piece harg4 x2 _ y (by decide) (by decide))
        (ld_one harg2 x0 (congrArg (fun z => ![_, z]) hw) (by decide) hc _ _)
  · intro b hb
    match b with
    | ⟨0, _⟩ => exact absurd rfl hb
    | ⟨1, _⟩ => rfl

end Cert.InProjIdeal.Body
end
-- ==== Proof.InAcc.lean ====
module

public import proofs.«01_k».proof.Proof.InWide

/-! The product of one block of the input projection, element by element. -/

@[expose] public section

set_option maxRecDepth 16384

noncomputable section

namespace Cert.InProjIdeal.Body

open Cert.InProjIdeal Cert.InProjIdeal.Gen Idealize.ShloMosaic Idealize.ShloMosaic.TcCoe Idealize.SL.Sem
open Cert.Blocks

/-- The block's product, as the body computes it from what it loads. -/
abbrev accOf (c : Dev nD) (i : grid0.Coords) (arg2 : Memref sig .tc .smem S28x83 .f32) (harg2 : arg2.IsWhole)
    (arg3 : Memref sig .tc .vmem S1024x3584 .bf16) (harg3 : arg3.IsWhole)
    (arg4 : Memref sig .tc .vmem S3584x128 .fp8e4m3) (harg4 : arg4.IsWhole)
    (arg5 : Memref sig .tc .vmem S3584x128 .fp8e4m3) (harg5 : arg5.IsWhole)
    (x0 : Vec Ideal S28x83 .f32) (x1 : Vec Ideal S1024x3584 .bf16) (x2 : Vec Ideal S3584x128 .fp8e4m3) (x3 : Vec Ideal S3584x128 .fp8e4m3) : FVec Ideal S1024x256 .f32 :=
  k0_pay62 (runB.sl.r_62 c i arg2 harg2 arg4 harg4 x0 x2) (runB.sl.r_63 c i arg2 harg2 arg5 harg5 x0 x3) (runB.sl.r_64 c i arg2 harg2 arg5 harg5 x0 x3) (runB.sl.r_71 c i arg2 harg2 arg5 harg5 x0 x3) (runB.sl.r_72 c i arg2 harg2 arg5 harg5 x0 x3) (runB.sl.r_73 c i arg2 harg2 arg5 harg5 x0 x3) (runB.sl.r_74 c i arg2 harg2 arg5 harg5 x0 x3) (runB.sl.r_75 c i arg2 harg2 arg5 harg5 x0 x3) (runB.sl.r_76 c i arg2 harg2 arg5 harg5 x0 x3) (runB.sl.r_83 c i arg2 harg2 arg5 harg5 x0 x3) (runB.sl.r_84 c i arg2 harg2 arg5 harg5 x0 x3) (runB.sl.r_85 c i arg2 harg2 arg5 harg5 x0 x3) (runB.sl.r_86 c i arg2 harg2 arg5 harg5 x0 x3) (runB.sl.r_87 c i arg2 harg2 arg5 harg5 x0 x3) (runB.sl.r_94 c i arg2 harg2 arg5 harg5 x0 x3) (runB.sl.r_95 c i arg2 harg2 arg5 harg5 x0 x3) (runB.sl.r_96 c i arg2 harg2 arg5 harg5 x0 x3) (runB.sl.r_97 c i arg2 harg2 arg5 harg5 x0 x3) (runB.sl.r_98 c i arg2 harg2 arg5 harg5 x0 x3) (runB.sl.r_99 c i arg2 harg2 arg5 harg5 x0 x3) (runB.sl.r_106 c i arg2 harg2 arg5 harg5 x0 x3) (runB.sl.r_107 c i arg2 harg2 arg5 harg5 x0 x3) (runB.sl.r_108 c i arg2 harg2 arg5 harg5 x0 x3) (runB.sl.r_109 c i arg2 harg2 arg5 harg5 x0 x3) (runB.sl.r_110 c i arg2 harg2 arg5 harg5 x0 x3) (runB.sl.r_111 c i arg2 harg2 x0) (View.readAt (Elt Ideal) arg5.view (Rect.unit (s := S3584x128) ![3072, 0] S128x128.size inb_S3584x128_S128x128_3072_0).toLoadRect (harg5.unread x3)) (runB.sl.r_112 c i arg2 harg2 x0) (View.readAt (Elt Ideal) arg5.view (Rect.unit (s := S3584x128) ![3200, 0] S128x128.size inb_S3584x128_S128x128_3200_0).toLoadRect (harg5.unread x3)) (runB.sl.r_113 c i arg2 harg2 x0) (View.readAt (Elt Ideal) arg5.view (Rect.unit (s := S3584x128) ![3328, 0] S128x128.size inb_S3584x128_S128x128_3328_0).toLoadRect (harg5.unread x3)) (runB.sl.r_114 c i arg2 harg2 x0) (View.readAt (Elt Ideal) arg5.view (Rect.unit (s := S3584x128) ![3456, 0] S128x128.size inb_S3584x128_S128x128_3456_0).toLoadRect (harg5.unread x3)) (View.readAt (Elt Ideal) arg3.view (Rect.unit (s := S1024x3584) ![0, 0] S1024x3584.size inb_S1024x3584_S1024x3584_0_0).toLoadRect (harg3.unread x1))

/-- The product of rows with the columns of two tiles side by side. -/
theorem product (x : FVec Ideal S1024x3584 .bf16) (L R : FVec Ideal S3584x128 .bf16) (y : S1024x256.Idx) :
    matmul dot_S1024x3584_S3584x256_S1024x256_1_0_0_1_n_n none x
        (concatenate S3584x256 1 [⟨S3584x128, L⟩, ⟨S3584x128, R⟩] concatenates_S3584x128_S3584x128_S3584x256_d1)
        (constant S1024x256 .f32 0x00000000#32) y
      = (∑ k : Fin 3584, (x (ix2 (y 0) k) : EReal) * (if h : (y 1).val < 128 then L (ix2 k ⟨(y 1).val, h⟩)
          else R (ix2 k ⟨(y 1).val - 128, by have := (y 1).isLt; simp [S1024x256] at this; omega⟩)) : EReal) := by
  pointwise []

/-- A load of the whole block of activations. -/
theorem ld_rows (arg3 : Memref sig .tc .vmem S1024x3584 .bf16) (harg3 : arg3.IsWhole) (x1 : Vec Ideal S1024x3584 .bf16) :
    View.readAt (Elt Ideal) arg3.view (Rect.unit (s := S1024x3584) ![0, 0] S1024x3584.size inb_S1024x3584_S1024x3584_0_0).toLoadRect (harg3.unread x1) = x1 :=
  funext fun y => (ld_piece (A := 1024) (B := 3584) harg3 x1 _ y (by decide) (by decide)).trans (congrArg x1 (funext fun a => Fin.ext (by
    have h0 : (y 0).val < 1024 := (y 0).isLt
    have h1 : (y 1).val < 3584 := (y 1).isLt
    match a with
    | ⟨0, _⟩ => show (0 + (y 0).val) % 1024 = (y 0).val; omega
    | ⟨1, _⟩ => show (0 + (y 1).val) % 3584 = (y 1).val; omega)))

set_option maxHeartbeats 2000000 in
/-- At row `y 0` and column `y 1` of the block: the row of activations times the column of weights of the left or the
right tile, each weight times the scale of its 128 by 128 tile. -/
theorem acc_apply (c : Dev nD) (i : grid0.Coords) (arg2 : Memref sig .tc .smem S28x83 .f32) (harg2 : arg2.IsWhole)
    (arg3 : Memref sig .tc .vmem S1024x3584 .bf16) (harg3 : arg3.IsWhole)
    (arg4 : Memref sig .tc .vmem S3584x128 .fp8e4m3) (harg4 : arg4.IsWhole)
    (arg5 : Memref sig .tc .vmem S3584x128 .fp8e4m3) (harg5 : arg5.IsWhole)
    (x0 : Vec Ideal S28x83 .f32) (x1 : Vec Ideal S1024x3584 .bf16) (x2 : Vec Ideal S3584x128 .fp8e4m3) (x3 : Vec Ideal S3584x128 .fp8e4m3) (y : S1024x256.Idx) :
    accOf c i arg2 harg2 arg3 harg3 arg4 harg4 arg5 harg5 x0 x1 x2 x3 y
      = (∑ k : Fin 3584, (x1 (ix2 (y 0) k) : EReal) * (if (y 1).val < 128
          then (x2 (ix2 k (Fin.ofNat 128 (y 1).val)) : EReal) * x0 (ix2 (Fin.ofNat 28 (k.val / 128)) (Fin.ofNat 83 (colL (i 1).val)))
          else (x3 (ix2 k (Fin.ofNat 128 ((y 1).val - 128))) : EReal) * x0 (ix2 (Fin.ofNat 28 (k.val / 128)) (Fin.ofNat 83 (colR (i 1).val)))) : EReal) := by
  have hl := wide_left c i arg2 harg2 arg4 harg4 x0 x2
  have h42 : (i 1).val < 42 := (i 1).isLt
  have hc := colR_lt _ h42
  have hw := wordR ⟨(i 1).val, h42⟩
  have hy : (y 1).val < 256 := (y 1).isLt
  unfold accOf k0_pay62
  rw [ld_rows]
  refine (product x1 _ _ y).trans (Finset.sum_congr rfl fun k _ => mul_eq rfl ?_)
  have hk' : k.val < 3584 := k.isLt
  by_cases h : (y 1).val < 128
  · rw [dif_pos h, if_pos h]
    refine (hl _).trans (mul_eq (congrArg x2 ?_) rfl)
    refine funext fun a => Fin.ext ?_
    match a with
    | ⟨0, _⟩ => show (128 * (k.val / 128) + k.val % 128) % 3584 = k.val; omega
    | ⟨1, _⟩ => show (0 + (y 1).val) % 128 = (y 1).val % 128; omega
  · rw [dif_neg h, if_neg h]
    refine (concat_eq (t := S3584x128) (s₁ := S128x128) _ _ (G := wide x0 x3 (colR (i 1).val)) ?_ _ rfl 128 rfl _
      (ix2 (Fin.ofNat 128 k.val) ⟨(y 1).val - 128, by omega⟩) rfl ?_).trans (mul_eq (congrArg x3 ?_) rfl)
    · repeat'
        first
        | exact trivial
        | refine And.intro ⟨_, rfl, fun y => ?_⟩ ?_
      all_goals
        sl_unfold_words
        unfold_payloads
        show (_ : EReal) * _ = _
        exact mul_eq (ld_piece harg5 x3 _ y (by decide) (by decide))
          (ld_one harg2 x0 (congrArg (fun z => ![_, z]) hw) (by decide) hc _ _)
    · intro b hb
      match b with
      | ⟨0, _⟩ => exact absurd rfl hb
      | ⟨1, _⟩ => rfl
    · refine funext fun a => Fin.ext ?_
      match a with
      | ⟨0, _⟩ => show (128 * (k.val / 128) + k.val % 128) % 3584 = k.val; omega
      | ⟨1, _⟩ => show (0 + ((y 1).val - 128)) % 128 = ((y 1).val - 128) % 128; omega

end Cert.InProjIdeal.Body
end
-- ==== Proof.InBody.lean ====
module

public import proofs.«01_k».proof.Proof.InAcc
public import proofs.«01_k».proof.Proof.Quant

/-! What the body of the input projection leaves in its output buffers, element by element. -/

@[expose] public section

set_option maxRecDepth 16384

noncomputable section

namespace Cert.InProjIdeal.Body

open Cert.InProjIdeal Cert.InProjIdeal.Gen Idealize.ShloMosaic Idealize.ShloMosaic.TcCoe Idealize.SL.Sem
open Cert.Blocks Cert.Quant

/-- A row of activations times a column of a tile of weights whose scales are in column `q`. -/
def dot (x0 : Vec Ideal S28x83 .f32) (x1 : Vec Ideal S1024x3584 .bf16) (x : Vec Ideal S3584x128 .fp8e4m3) (q : ℕ)
    (r : Fin 1024) (l : Fin 128) : EReal :=
  ∑ k : Fin 3584, (x1 (ix2 r k) : EReal) * ((x (ix2 k l) : EReal) * x0 (ix2 (Fin.ofNat 28 (k.val / 128)) (Fin.ofNat 83 q)))

/-- The gated feed-forward value: the gate times its logistic, times the other product. -/
def gated (x0 : Vec Ideal S28x83 .f32) (x1 : Vec Ideal S1024x3584 .bf16) (x2 x3 : Vec Ideal S3584x128 .fp8e4m3) (j : ℕ)
    (r : Fin 1024) (l : Fin 128) : EReal :=
  dot x0 x1 x2 (colL j) r l * Ideal.logistic (dot x0 x1 x2 (colL j) r l) * dot x0 x1 x3 (colR j) r l

/-- The left half of the product. -/
theorem acc_left (c : Dev nD) (i : grid0.Coords) (arg2 : Memref sig .tc .smem S28x83 .f32) (harg2 : arg2.IsWhole) (arg3 : Memref sig .tc .vmem S1024x3584 .bf16) (harg3 : arg3.IsWhole)
    (arg4 : Memref sig .tc .vmem S3584x128 .fp8e4m3) (harg4 : arg4.IsWhole) (arg5 : Memref sig .tc .vmem S3584x128 .fp8e4m3) (harg5 : arg5.IsWhole)
    (x0 : Vec Ideal S28x83 .f32) (x1 : Vec Ideal S1024x3584 .bf16) (x2 : Vec Ideal S3584x128 .fp8e4m3) (x3 : Vec Ideal S3584x128 .fp8e4m3) (y : S1024x256.Idx) (h : (y 1).val < 128) :
    accOf c i arg2 harg2 arg3 harg3 arg4 harg4 arg5 harg5 x0 x1 x2 x3 y = dot x0 x1 x2 (colL (i 1).val) (y 0) ⟨(y 1).val, h⟩ := by
  refine (acc_apply c i arg2 harg2 arg3 harg3 arg4 harg4 arg5 harg5 x0 x1 x2 x3 y).trans (Finset.sum_congr rfl fun k _ => mul_eq rfl ?_)
  rw [if_pos h]
  refine mul_eq (congrArg (fun z => x2 (ix2 k z)) (Fin.ext ?_)) rfl
  show (y 1).val % 128 = (y 1).val
  omega

/-- The right half of the product. -/
theorem acc_right (c : Dev nD) (i : grid0.Coords) (arg2 : Memref sig .tc .smem S28x83 .f32) (harg2 : arg2.IsWhole) (arg3 : Memref sig .tc .vmem S1024x3584 .bf16) (harg3 : arg3.IsWhole)
    (arg4 : Memref sig .tc .vmem S3584x128 .fp8e4m3) (harg4 : arg4.IsWhole) (arg5 : Memref sig .tc .vmem S3584x128 .fp8e4m3) (harg5 : arg5.IsWhole)
    (x0 : Vec Ideal S28x83 .f32) (x1 : Vec Ideal S1024x3584 .bf16) (x2 : Vec Ideal S3584x128 .fp8e4m3) (x3 : Vec Ideal S3584x128 .fp8e4m3) (y : S1024x256.Idx) (h : ¬(y 1).val < 128) (l : Fin 128) (hl : l.val = (y 1).val - 128) :
    accOf c i arg2 harg2 arg3 harg3 arg4 harg4 arg5 harg5 x0 x1 x2 x3 y = dot x0 x1 x3 (colR (i 1).val) (y 0) l := by
  refine (acc_apply c i arg2 harg2 arg3 harg3 arg4 harg4 arg5 harg5 x0 x1 x2 x3 y).trans (Finset.sum_congr rfl fun k _ => mul_eq rfl ?_)
  rw [if_neg h]
  refine mul_eq (congrArg (fun z => x3 (ix2 k z)) (Fin.ext ?_)) rfl
  show ((y 1).val - 128) % 128 = l.val
  omega

/-- The body's feed-forward values before they are quantised, from the block's product. -/
theorem h_eq (c : Dev nD) (i : grid0.Coords) (arg2 : Memref sig .tc .smem S28x83 .f32) (harg2 : arg2.IsWhole) (arg3 : Memref sig .tc .vmem S1024x3584 .bf16) (harg3 : arg3.IsWhole)
    (arg4 : Memref sig .tc .vmem S3584x128 .fp8e4m3) (harg4 : arg4.IsWhole) (arg5 : Memref sig .tc .vmem S3584x128 .fp8e4m3) (harg5 : arg5.IsWhole)
    (x0 : Vec Ideal S28x83 .f32) (x1 : Vec Ideal S1024x3584 .bf16) (x2 : Vec Ideal S3584x128 .fp8e4m3) (x3 : Vec Ideal S3584x128 .fp8e4m3) :
    runA.sl.r_115 c i arg2 harg2 arg3 harg3 arg4 harg4 arg5 harg5 x0 x1 x2 x3
      = k0_pay1 (extractStridedSlice S1024x128 ![0, 0] (accOf c i arg2 harg2 arg3 harg3 arg4 harg4 arg5 harg5 x0 x1 x2 x3) slices_S1024x256_o0_0_S1024x128)
          (extractStridedSlice S1024x128 ![0, 128] (accOf c i arg2 harg2 arg3 harg3 arg4 harg4 arg5 harg5 x0 x1 x2 x3) slices_S1024x256_o0_128_S1024x128) := rfl

/-- They are the gated values. -/
theorem h_apply (c : Dev nD) (i : grid0.Coords) (arg2 : Memref sig .tc .smem S28x83 .f32) (harg2 : arg2.IsWhole) (arg3 : Memref sig .tc .vmem S1024x3584 .bf16) (harg3 : arg3.IsWhole)
    (arg4 : Memref sig .tc .vmem S3584x128 .fp8e4m3) (harg4 : arg4.IsWhole) (arg5 : Memref sig .tc .vmem S3584x128 .fp8e4m3) (harg5 : arg5.IsWhole)
    (x0 : Vec Ideal S28x83 .f32) (x1 : Vec Ideal S1024x3584 .bf16) (x2 : Vec Ideal S3584x128 .fp8e4m3) (x3 : Vec Ideal S3584x128 .fp8e4m3) (y : S1024x128.Idx) :
    runA.sl.r_115 c i arg2 harg2 arg3 harg3 arg4 harg4 arg5 harg5 x0 x1 x2 x3 y = gated x0 x1 x2 x3 (i 1).val (y 0) (y 1) := by
  have hy : (y 1).val < 128 := (y 1).isLt
  rw [h_eq]
  have h1 := acc_left c i arg2 harg2 arg3 harg3 arg4 harg4 arg5 harg5 x0 x1 x2 x3 (ix2 (y 0) ⟨(y 1).val, by omega⟩) hy
  have h2 := acc_right c i arg2 harg2 arg3 harg3 arg4 harg4 arg5 harg5 x0 x1 x2 x3 (ix2 (y 0) ⟨128 + (y 1).val, by omega⟩) (by show ¬(128 + (y 1).val < 128); omega) (y 1)
    (by show (y 1).val = 128 + (y 1).val - 128; omega)
  generalize accOf c i arg2 harg2 arg3 harg3 arg4 harg4 arg5 harg5 x0 x1 x2 x3 = acc at h1 h2 ⊢
  pointwise [k0_pay1]
  unfold gated
  rw [show dot x0 x1 x2 (colL (i 1).val) (y 0) (y 1) = _ from h1.symm, show dot x0 x1 x3 (colR (i 1).val) (y 0) (y 1) = _ from h2.symm]

/-- The largest magnitude of every row, over 448. -/
def topV (h : FVec Ideal S1024x128 .f32) : FVec Ideal S1024x1 .f32 :=
  mulf (shapeCast S1024x1 (multiReduction .maximumf [1] S1024 (absf h) 0xFF800000#32 reduces_S1024x128_S1024 (.inl rfl) rfl)
    shapeCasts_S1024_S1024x1) (broadcast S1024x1 (Scalar.ofBits .f32 0x3B124925#32))

theorem topV_apply (h : FVec Ideal S1024x128 .f32) (y : S1024x1.Idx) : topV h y = top fun l => h (ix2 (y 0) l) := by
  unfold topV
  pointwise []
  rfl

/-- The exponent field the body finds is the search's. -/
theorem field_eq (v464 v465 : FVec Ideal S1024x128 .f32) : k0_pay2 v464 v465 = search (topV (k0_pay1 v464 v465)) := rfl

/-- The exponent field the body finds for a row. -/
theorem field_apply (c : Dev nD) (i : grid0.Coords) (arg2 : Memref sig .tc .smem S28x83 .f32) (harg2 : arg2.IsWhole) (arg3 : Memref sig .tc .vmem S1024x3584 .bf16) (harg3 : arg3.IsWhole)
    (arg4 : Memref sig .tc .vmem S3584x128 .fp8e4m3) (harg4 : arg4.IsWhole) (arg5 : Memref sig .tc .vmem S3584x128 .fp8e4m3) (harg5 : arg5.IsWhole)
    (x0 : Vec Ideal S28x83 .f32) (x1 : Vec Ideal S1024x3584 .bf16) (x2 : Vec Ideal S3584x128 .fp8e4m3) (x3 : Vec Ideal S3584x128 .fp8e4m3) (y : S1024x1.Idx) :
    runA.sl.r_116 c i arg2 harg2 arg3 harg3 arg4 harg4 arg5 harg5 x0 x1 x2 x3 y = word (level (top (gated x0 x1 x2 x3 (i 1).val (y 0)))) := by
  have h : runA.sl.r_116 c i arg2 harg2 arg3 harg3 arg4 harg4 arg5 harg5 x0 x1 x2 x3
      = k0_pay2 (extractStridedSlice S1024x128 ![0, 0] (accOf c i arg2 harg2 arg3 harg3 arg4 harg4 arg5 harg5 x0 x1 x2 x3) slices_S1024x256_o0_0_S1024x128)
          (extractStridedSlice S1024x128 ![0, 128] (accOf c i arg2 harg2 arg3 harg3 arg4 harg4 arg5 harg5 x0 x1 x2 x3) slices_S1024x256_o0_128_S1024x128) := rfl
  rw [h, field_eq, search_apply, ← h_eq, topV_apply]
  exact congrArg (fun f => word (level (top f))) (funext fun l => h_apply c i arg2 harg2 arg3 harg3 arg4 harg4 arg5 harg5 x0 x1 x2 x3 _)

/-- The codes from the values and the exponent field. -/
theorem codes_apply (H : FVec Ideal S1024x128 .f32) (M : IVec S1024x1 32) (y : S1024x128.Idx) (v : EReal)
    (hM : M (ix2 (y 0) 0) = word (level v)) : k0_pay68 H M y = code (H y) v := by
  have hw := inv_words ⟨level v, Nat.lt_succ_of_le (level_le v)⟩
  unfold k0_pay68
  pointwise [k0_pay66, k0_pay65]
  rw [hM]
  unfold code Quant.inv
  rw [← hw]
  rfl

/-- The scale from the exponent field. -/
theorem scale_apply (M : IVec S1024x1 32) (y : S1024x1.Idx) (v : EReal)
    (hM : M y = word (level v)) : k0_pay67 (F := Ideal) M y = scale v := by
  have hw := scale_words ⟨level v, Nat.lt_succ_of_le (level_le v)⟩
  unfold k0_pay67
  pointwise [k0_pay66, k0_pay65]
  rw [hM]
  unfold scale
  rw [← hw]
  rfl

/-- What the body leaves in the buffer of projections. -/
theorem out4_apply (c : Dev nD) (i : grid0.Coords) (arg2 : Memref sig .tc .smem S28x83 .f32) (harg2 : arg2.IsWhole) (arg3 : Memref sig .tc .vmem S1024x3584 .bf16) (harg3 : arg3.IsWhole)
    (arg4 : Memref sig .tc .vmem S3584x128 .fp8e4m3) (harg4 : arg4.IsWhole) (arg5 : Memref sig .tc .vmem S3584x128 .fp8e4m3) (harg5 : arg5.IsWhole)
    (arg6 : Memref sig .tc .vmem S1024x256 .bf16) (harg6 : arg6.IsWhole) (arg7 : Memref sig .tc .vmem S1024x128 .fp8e4m3) (harg7 : arg7.IsWhole)
    (arg8 : Memref sig .tc .vmem S1024x37 .f32) (harg8 : arg8.IsWhole) (arg9 : Memref sig .tc .vmem S1024x128 .bf16) (harg9 : arg9.IsWhole)
    (hc0 : ¬cond0_0 i) (hc1 : cond0_1 i) (x0 : Vec Ideal S28x83 .f32) (x1 : Vec Ideal S1024x3584 .bf16) (x2 : Vec Ideal S3584x128 .fp8e4m3) (x3 : Vec Ideal S3584x128 .fp8e4m3) (y : S1024x256.Idx) :
    out4 c i arg2 harg2 arg3 harg3 arg4 harg4 arg5 harg5 arg6 harg6 arg7 harg7 arg8 harg8 arg9 harg9 hc0 hc1 x0 x1 x2 x3 y = accOf c i arg2 harg2 arg3 harg3 arg4 harg4 arg5 harg5 x0 x1 x2 x3 y := by
  unfold out4 runB
  dsimp only
  show View.read (Elt Ideal) VO4 (VO4.writes (Elt Ideal) VO4.junk [⟨Rect.unit (s := S1024x256) ![0, 0] S1024x256.size inb_S1024x256_S1024x256_0_0, truncf .bf16 (accOf c i arg2 harg2 arg3 harg3 arg4 harg4 arg5 harg5 x0 x1 x2 x3) bitsLt_bf16_f32⟩]) y = _
  generalize accOf c i arg2 harg2 arg3 harg3 arg4 harg4 arg5 harg5 x0 x1 x2 x3 = acc
  frame_out
  pointwise []

/-- What it leaves in the buffer of codes. -/
theorem out5_apply (c : Dev nD) (i : grid0.Coords) (arg2 : Memref sig .tc .smem S28x83 .f32) (harg2 : arg2.IsWhole) (arg3 : Memref sig .tc .vmem S1024x3584 .bf16) (harg3 : arg3.IsWhole)
    (arg4 : Memref sig .tc .vmem S3584x128 .fp8e4m3) (harg4 : arg4.IsWhole) (arg5 : Memref sig .tc .vmem S3584x128 .fp8e4m3) (harg5 : arg5.IsWhole)
    (arg6 : Memref sig .tc .vmem S1024x256 .bf16) (harg6 : arg6.IsWhole) (arg7 : Memref sig .tc .vmem S1024x128 .fp8e4m3) (harg7 : arg7.IsWhole)
    (arg8 : Memref sig .tc .vmem S1024x37 .f32) (harg8 : arg8.IsWhole) (arg9 : Memref sig .tc .vmem S1024x128 .bf16) (harg9 : arg9.IsWhole)
    (hc0 : cond0_0 i) (hc1 : ¬cond0_1 i) (x0 : Vec Ideal S28x83 .f32) (x1 : Vec Ideal S1024x3584 .bf16) (x2 : Vec Ideal S3584x128 .fp8e4m3) (x3 : Vec Ideal S3584x128 .fp8e4m3) (y6 : Vec Ideal S1024x37 .f32) (y : S1024x128.Idx) :
    out5 c i arg2 harg2 arg3 harg3 arg4 harg4 arg5 harg5 arg6 harg6 arg7 harg7 arg8 harg8 arg9 harg9 hc0 hc1 x0 x1 x2 x3 y6 y = code (gated x0 x1 x2 x3 (i 1).val (y 0) (y 1)) (top (gated x0 x1 x2 x3 (i 1).val (y 0))) := by
  have hH := h_apply c i arg2 harg2 arg3 harg3 arg4 harg4 arg5 harg5 x0 x1 x2 x3
  have hM := field_apply c i arg2 harg2 arg3 harg3 arg4 harg4 arg5 harg5 x0 x1 x2 x3
  unfold out5 runA
  dsimp only
  generalize runA.sl.r_115 c i arg2 harg2 arg3 harg3 arg4 harg4 arg5 harg5 x0 x1 x2 x3 = H at hH ⊢
  generalize runA.sl.r_116 c i arg2 harg2 arg3 harg3 arg4 harg4 arg5 harg5 x0 x1 x2 x3 = M at hM ⊢
  frame_out
  rw [codes_apply H M _ _ (hM _), hH]
  rfl

/-- What it leaves in the buffer of scales: the column of the grid column new, the others as they were. -/
theorem out6_apply (c : Dev nD) (i : grid0.Coords) (arg2 : Memref sig .tc .smem S28x83 .f32) (harg2 : arg2.IsWhole) (arg3 : Memref sig .tc .vmem S1024x3584 .bf16) (harg3 : arg3.IsWhole)
    (arg4 : Memref sig .tc .vmem S3584x128 .fp8e4m3) (harg4 : arg4.IsWhole) (arg5 : Memref sig .tc .vmem S3584x128 .fp8e4m3) (harg5 : arg5.IsWhole)
    (arg6 : Memref sig .tc .vmem S1024x256 .bf16) (harg6 : arg6.IsWhole) (arg7 : Memref sig .tc .vmem S1024x128 .fp8e4m3) (harg7 : arg7.IsWhole)
    (arg8 : Memref sig .tc .vmem S1024x37 .f32) (harg8 : arg8.IsWhole) (arg9 : Memref sig .tc .vmem S1024x128 .bf16) (harg9 : arg9.IsWhole)
    (hc0 : cond0_0 i) (hc1 : ¬cond0_1 i) (x0 : Vec Ideal S28x83 .f32) (x1 : Vec Ideal S1024x3584 .bf16) (x2 : Vec Ideal S3584x128 .fp8e4m3) (x3 : Vec Ideal S3584x128 .fp8e4m3) (y6 : Vec Ideal S1024x37 .f32) (y : S1024x37.Idx) :
    out6 c i arg2 harg2 arg3 harg3 arg4 harg4 arg5 harg5 arg6 harg6 arg7 harg7 arg8 harg8 arg9 harg9 hc0 hc1 x0 x1 x2 x3 y6 y = if (y 1).val = (i 1).val then scale (top (gated x0 x1 x2 x3 (i 1).val (y 0))) else (y6 y : EReal) := by
  have hM := field_apply c i arg2 harg2 arg3 harg3 arg4 harg4 arg5 harg5 x0 x1 x2 x3
  unfold out6 runA
  dsimp only
  generalize runA.sl.r_116 c i arg2 harg2 arg3 harg3 arg4 harg4 arg5 harg5 x0 x1 x2 x3 = M at hM ⊢
  have hS := fun z : S1024x1.Idx => scale_apply M z _ (hM z)
  frame_out
  unfold k0_pay70
  generalize k0_pay67 (F := Ideal) M = S at hS ⊢
  pointwise []
  rw [hS]
  have h0 : (y 1).val < 37 := (y 1).isLt
  have h1 : (i 1).val < 42 := (i 1).isLt
  by_cases h : (y 1).val = (i 1).val
  · rw [if_pos h, h]
    simp [Scalar.select, IntOp.cmpi]
  · rw [if_neg h]
    have : BitVec.ofNat 32 (y 1).val ≠ BitVec.ofNat 32 (i 1).val := by
      intro e
      have := congrArg BitVec.toNat e
      simp only [BitVec.toNat_ofNat] at this
      omega
    simp [Scalar.select, IntOp.cmpi, beq_eq_false_iff_ne.mpr this]

/-- What it leaves in the buffer of widened codes. -/
theorem out7_apply (c : Dev nD) (i : grid0.Coords) (arg2 : Memref sig .tc .smem S28x83 .f32) (harg2 : arg2.IsWhole) (arg3 : Memref sig .tc .vmem S1024x3584 .bf16) (harg3 : arg3.IsWhole)
    (arg4 : Memref sig .tc .vmem S3584x128 .fp8e4m3) (harg4 : arg4.IsWhole) (arg5 : Memref sig .tc .vmem S3584x128 .fp8e4m3) (harg5 : arg5.IsWhole)
    (arg6 : Memref sig .tc .vmem S1024x256 .bf16) (harg6 : arg6.IsWhole) (arg7 : Memref sig .tc .vmem S1024x128 .fp8e4m3) (harg7 : arg7.IsWhole)
    (arg8 : Memref sig .tc .vmem S1024x37 .f32) (harg8 : arg8.IsWhole) (arg9 : Memref sig .tc .vmem S1024x128 .bf16) (harg9 : arg9.IsWhole)
    (hc0 : cond0_0 i) (hc1 : ¬cond0_1 i) (x0 : Vec Ideal S28x83 .f32) (x1 : Vec Ideal S1024x3584 .bf16) (x2 : Vec Ideal S3584x128 .fp8e4m3) (x3 : Vec Ideal S3584x128 .fp8e4m3) (y6 : Vec Ideal S1024x37 .f32) (y : S1024x128.Idx) :
    out7 c i arg2 harg2 arg3 harg3 arg4 harg4 arg5 harg5 arg6 harg6 arg7 harg7 arg8 harg8 arg9 harg9 hc0 hc1 x0 x1 x2 x3 y6 y = (code (gated x0 x1 x2 x3 (i 1).val (y 0) (y 1)) (top (gated x0 x1 x2 x3 (i 1).val (y 0)))
      * scale (top (gated x0 x1 x2 x3 (i 1).val (y 0))) : EReal) := by
  have hH := h_apply c i arg2 harg2 arg3 harg3 arg4 harg4 arg5 harg5 x0 x1 x2 x3
  have hM := field_apply c i arg2 harg2 arg3 harg3 arg4 harg4 arg5 harg5 x0 x1 x2 x3
  unfold out7 runA
  dsimp only
  generalize runA.sl.r_115 c i arg2 harg2 arg3 harg3 arg4 harg4 arg5 harg5 x0 x1 x2 x3 = H at hH ⊢
  generalize runA.sl.r_116 c i arg2 harg2 arg3 harg3 arg4 harg4 arg5 harg5 x0 x1 x2 x3 = M at hM ⊢
  have hS := fun z : S1024x1.Idx => scale_apply M z _ (hM z)
  have hC := fun z : S1024x128.Idx => codes_apply H M z _ (hM _)
  frame_out
  unfold k0_pay69
  generalize k0_pay67 (F := Ideal) M = S at hS ⊢
  generalize k0_pay68 H M = C at hC ⊢
  pointwise []
  rw [hC, hH, hS]
  rfl

end Cert.InProjIdeal.Body
end
-- ==== Proof.InValue.lean ====
module

public import proofs.«01_k».proof.Proof.InBody

/-! The values of the input projection on its arguments, and what the buffers hold at the points that write them back. -/

@[expose] public section

set_option maxRecDepth 16384

noncomputable section

open Idealize.ShloMosaic Idealize.ShloMosaic.TcCoe Idealize.SL.Sem

/-- The input projection at row `r` and column `n`: a row of activations times a column of weights, each weight times
the scale of its 128 by 128 tile. -/
def Cert.inProj (s : FVec Ideal Cert.InProjIdeal.S28x83 .f32) (x : FVec Ideal Cert.InProjIdeal.S8192x3584 .bf16)
    (w : FVec Ideal Cert.InProjIdeal.S3584x10624 .fp8e4m3) (r : Fin 8192) (n : Fin 10624) : EReal :=
  ∑ k : Fin 3584, (x (ix2 r k) : EReal) * ((w (ix2 k n) : EReal) * s (ix2 (Fin.ofNat 28 (k.val / 128)) (Fin.ofNat 83 (n.val / 128))))

/-- The gated feed-forward value at row `r`, lane `l` of group `g`: the gate times its logistic, times the other
projection. -/
def Cert.inGated (s : FVec Ideal Cert.InProjIdeal.S28x83 .f32) (x : FVec Ideal Cert.InProjIdeal.S8192x3584 .bf16)
    (w : FVec Ideal Cert.InProjIdeal.S3584x10624 .fp8e4m3) (r : Fin 8192) (g : ℕ) (l : Fin 128) : EReal :=
  Cert.inProj s x w r (Fin.ofNat 10624 (1152 + (g * 128 + l.val)))
    * Ideal.logistic (Cert.inProj s x w r (Fin.ofNat 10624 (1152 + (g * 128 + l.val))))
    * Cert.inProj s x w r (Fin.ofNat 10624 (5888 + (g * 128 + l.val)))

namespace Cert.InProjIdeal.Body

open Cert.InProjIdeal Cert.InProjIdeal.Gen
open Cert.Blocks Cert.Quant

variable (m : (ℓ : Loc nD τ sig) → Buf (Elt Ideal) ℓ)

/-- The grid coordinates of a point. -/
theorem coords_eq : ∀ t : Fin cfg0.N, (grid0.coords t 0).val = t.val / 42 ∧ (grid0.coords t 1).val = t.val % 42 :=
  (by decide +kernel : ∀ t : Fin grid0.N, _)

/-- The windows' block indices. -/
theorem idx : ∀ t : Fin cfg0.N, win0_0.index t = ![0, 0] ∧ win0_1.index t = ![t.val / 42, 0]
    ∧ win0_2.index t = ![0, colL (t.val % 42)] ∧ win0_3.index t = ![0, colR (t.val % 42)]
    ∧ win0_4.index t = ![t.val / 42, t.val % 42 - 37] ∧ win0_5.index t = ![t.val / 42, min (t.val % 42) 36]
    ∧ win0_6.index t = ![t.val / 42, 0] ∧ win0_7.index t = ![t.val / 42, min (t.val % 42) 36] :=
  (by decide +kernel : ∀ t : Fin grid0.N, _)

theorem lt_336 (t : Fin cfg0.N) : t.val < 336 := lt_of_lt_of_eq t.isLt (by decide +kernel : grid0.N = 336)

/-- The row of the arrays that row `r` of the blocks at point `t` is. -/
def row (t : Fin cfg0.N) (r : Fin 1024) : Fin 8192 :=
  ⟨t.val / 42 * 1024 + r.val, by have := lt_336 t; omega⟩

theorem blk0 (c : Dev nD) (t : Fin cfg0.N) (y : S28x83.Idx) :
    (iblk m c 0 t : Vec Ideal S28x83 .f32) y = m ((c : Thread nD τ).loc main_arg0) y := by
  blk_point [iblk, idx t]

theorem blk1 (c : Dev nD) (t : Fin cfg0.N) (r : Fin 1024) (k : Fin 3584) :
    (iblk m c 1 t : Vec Ideal S1024x3584 .bf16) (ix2 r k) = m ((c : Thread nD τ).loc main_arg1) (ix2 (row t r) k) := by
  unfold row
  blk_point [iblk, idx t]

theorem blk2 (c : Dev nD) (t : Fin cfg0.N) (k : Fin 3584) (l : Fin 128) (n : Fin 10624) (hn : n.val = colL (t.val % 42) * 128 + l.val) :
    (iblk m c 2 t : Vec Ideal S3584x128 .fp8e4m3) (ix2 k l) = m ((c : Thread nD τ).loc main_arg2) (ix2 k n) := by
  generalize hq : colL (t.val % 42) = q at hn
  blk_point [iblk, idx t]

theorem blk3 (c : Dev nD) (t : Fin cfg0.N) (k : Fin 3584) (l : Fin 128) (n : Fin 10624) (hn : n.val = colR (t.val % 42) * 128 + l.val) :
    (iblk m c 3 t : Vec Ideal S3584x128 .fp8e4m3) (ix2 k l) = m ((c : Thread nD τ).loc main_arg2) (ix2 k n) := by
  generalize hq : colR (t.val % 42) = q at hn
  blk_point [iblk, idx t]

/-- The argument arrays: the scales, the activations, the weights. -/
abbrev S (c : Dev nD) : FVec Ideal S28x83 .f32 := m ((c : Thread nD τ).loc main_arg0)
abbrev X (c : Dev nD) : FVec Ideal S8192x3584 .bf16 := m ((c : Thread nD τ).loc main_arg1)
abbrev W (c : Dev nD) : FVec Ideal S3584x10624 .fp8e4m3 := m ((c : Thread nD τ).loc main_arg2)

/-- A row of a block times a column of its left tile is the projection. -/
theorem dotL (c : Dev nD) (t : Fin cfg0.N) (r : Fin 1024) (l : Fin 128) (n : Fin 10624) (hn : n.val = colL (t.val % 42) * 128 + l.val) :
    dot (iblk m c 0 t) (iblk m c 1 t) (iblk m c 2 t) (colL (t.val % 42)) r l = Cert.inProj (S m c) (X m c) (W m c) (row t r) n := by
  refine Finset.sum_congr rfl fun k _ => mul_eq (blk1 m c t r k) (mul_eq (blk2 m c t k l n hn) ?_)
  refine (blk0 m c t _).trans (congrArg (fun q => S m c (ix2 (Fin.ofNat 28 (k.val / 128)) q)) (Fin.ext ?_))
  show colL (t.val % 42) % 83 = n.val / 128 % 83
  omega

/-- A row of a block times a column of its right tile is the projection. -/
theorem dotR (c : Dev nD) (t : Fin cfg0.N) (r : Fin 1024) (l : Fin 128) (n : Fin 10624) (hn : n.val = colR (t.val % 42) * 128 + l.val) :
    dot (iblk m c 0 t) (iblk m c 1 t) (iblk m c 3 t) (colR (t.val % 42)) r l = Cert.inProj (S m c) (X m c) (W m c) (row t r) n := by
  refine Finset.sum_congr rfl fun k _ => mul_eq (blk1 m c t r k) (mul_eq (blk3 m c t k l n hn) ?_)
  refine (blk0 m c t _).trans (congrArg (fun q => S m c (ix2 (Fin.ofNat 28 (k.val / 128)) q)) (Fin.ext ?_))
  show colR (t.val % 42) % 83 = n.val / 128 % 83
  omega

/-- The gated values of a block are those of its rows and its group. -/
theorem gated_eq (c : Dev nD) (t : Fin cfg0.N) (h : t.val % 42 ≤ 36) (r : Fin 1024) :
    gated (iblk m c 0 t) (iblk m c 1 t) (iblk m c 2 t) (iblk m c 3 t) (grid0.coords t 1).val r
      = Cert.inGated (S m c) (X m c) (W m c) (row t r) (t.val % 42) := by
  funext l
  rw [(coords_eq t).2]
  have hl := l.isLt
  unfold gated Cert.inGated
  rw [dotL m c t r l (Fin.ofNat 10624 (1152 + (t.val % 42 * 128 + l.val)))
      (by rw [show colL (t.val % 42) = 9 + t.val % 42 from if_pos (by omega)]; show (1152 + (t.val % 42 * 128 + l.val)) % 10624 = _; omega),
    dotR m c t r l (Fin.ofNat 10624 (5888 + (t.val % 42 * 128 + l.val)))
      (by rw [show colR (t.val % 42) = 46 + t.val % 42 from if_pos (by omega)]; show (5888 + (t.val % 42 * 128 + l.val)) % 10624 = _; omega)]

/-- The scale of a row and a group. -/
def scaleAt (c : Dev nD) (r : Fin 8192) (g : ℕ) : EReal := scale (top (Cert.inGated (S m c) (X m c) (W m c) r g))

/-- The code of a row, a group and a lane. -/
def codeAt (c : Dev nD) (r : Fin 8192) (g : ℕ) (l : Fin 128) : EReal :=
  code (Cert.inGated (S m c) (X m c) (W m c) r g l) (top (Cert.inGated (S m c) (X m c) (W m c) r g))

theorem at4_apply (c : Dev nD) (t : Fin cfg0.N) (h : ¬t.val % 42 ≤ 36) (y : S1024x256.Idx) (n : Fin 10624)
    (hn : n.val = (t.val % 42 - 37) * 256 + (y 1).val) :
    at4 m c t h y = Cert.inProj (S m c) (X m c) (W m c) (row t (y 0)) n := by
  have ht := lt_336 t
  have hy : (y 1).val < 256 := (y 1).isLt
  unfold at4
  rw [out4_apply]
  by_cases hl : (y 1).val < 128
  · rw [acc_left _ _ _ _ _ _ _ _ _ _ _ _ _ _ _ hl, (coords_eq t).2]
    exact dotL m c t (y 0) _ n (by rw [show colL (t.val % 42) = 2 * (t.val % 42 - 37) from if_neg (by omega)]; show n.val = _ + (y 1).val; omega)
  · rw [acc_right _ _ _ _ _ _ _ _ _ _ _ _ _ _ _ hl ⟨(y 1).val - 128, by omega⟩ rfl, (coords_eq t).2]
    exact dotR m c t (y 0) _ n (by rw [show colR (t.val % 42) = min (2 * (t.val % 42 - 37) + 1) 82 from if_neg (by omega)]; show n.val = _ + ((y 1).val - 128); omega)

theorem at5_apply (c : Dev nD) (t : Fin cfg0.N) (h : t.val % 42 ≤ 36) (y6 : Vec Ideal S1024x37 .f32) (y : S1024x128.Idx) :
    at5 m c t h y6 y = codeAt m c (row t (y 0)) (t.val % 42) (y 1) := by
  unfold at5
  exact (out5_apply ..).trans (congrArg (fun f : Fin 128 → EReal => code (f (y 1)) (top f)) (gated_eq m c t h (y 0)))

theorem at6_apply (c : Dev nD) (t : Fin cfg0.N) (h : t.val % 42 ≤ 36) (y6 : Vec Ideal S1024x37 .f32) (y : S1024x37.Idx) :
    at6 m c t h y6 y = if (y 1).val = t.val % 42 then scaleAt m c (row t (y 0)) (t.val % 42) else (y6 y : EReal) := by
  unfold at6
  refine (out6_apply ..).trans ?_
  have e := (coords_eq t).2
  have hg := congrArg (fun f : Fin 128 → EReal => scale (top f)) (gated_eq m c t h (y 0))
  by_cases hy : (y 1).val = t.val % 42
  · rw [if_pos (hy.trans e.symm), if_pos hy]
    exact hg
  · rw [if_neg (fun h' => hy (h'.trans e)), if_neg hy]

theorem at7_apply (c : Dev nD) (t : Fin cfg0.N) (h : t.val % 42 ≤ 36) (y6 : Vec Ideal S1024x37 .f32) (y : S1024x128.Idx) :
    at7 m c t h y6 y = (codeAt m c (row t (y 0)) (t.val % 42) (y 1) * scaleAt m c (row t (y 0)) (t.val % 42) : EReal) := by
  unfold at7
  exact (out7_apply ..).trans (congrArg (fun f : Fin 128 → EReal => (code (f (y 1)) (top f) * scale (top f) : EReal)) (gated_eq m c t h (y 0)))

/-! ## What the buffers hold -/

theorem fetch_out : ∀ t : Fin cfg0.N, (cfg0.win 5).fetch t = false ∧ (cfg0.win 6).fetch t = false ∧ (cfg0.win 7).fetch t = false :=
  (by decide +kernel : ∀ t : Fin grid0.N, win0_5.fetch t = false ∧ win0_6.fetch t = false ∧ win0_7.fetch t = false)

/-- The codes' buffer is not written back from the last feed-forward point until the row of blocks ends. -/
theorem flush_codes : ∀ t : Fin cfg0.N, 36 ≤ t.val % 42 → t.val % 42 ≤ 40 → (cfg0.win 5).flush t = false ∧ (cfg0.win 7).flush t = false :=
  (by decide +kernel : ∀ t : Fin grid0.N, 36 ≤ t.val % 42 → t.val % 42 ≤ 40 → win0_5.flush t = false ∧ win0_7.flush t = false)

/-- A point of the projections alone leaves the row as it was. -/
theorem row_pred (t : Fin cfg0.N) (h : t.val % 42 ≠ 0) (r : Fin 1024) : row ⟨t.val - 1, by omega⟩ r = row t r := by
  refine Fin.ext ?_
  show (t.val - 1) / 42 * 1024 + r.val = t.val / 42 * 1024 + r.val
  have : (t.val - 1) / 42 = t.val / 42 := by omega
  rw [this]

theorem leaves4 (c : Dev nD) (t : Fin cfg0.N) (h : ¬t.val % 42 ≤ 36) (Z) (hZ : (rdat m c).Leaves 4 t Z) : Z = at4 m c t h := by
  obtain ⟨Y, _, hs⟩ := hZ
  exact (show (t.val % 42 ≤ 36 → Z = Y) ∧ ∀ h : ¬t.val % 42 ≤ 36, Z = at4 m c t h from hs).2 h

/-- At every point the codes' buffer holds the codes of the last feed-forward point. -/
theorem leaves5 (c : Dev nD) : ∀ (n : ℕ) (t : Fin cfg0.N), t.val = n → ∀ Z, (rdat m c).Leaves 5 t Z → ∀ y : S1024x128.Idx,
    (Z : Vec Ideal S1024x128 .fp8e4m3) y = codeAt m c (row t (y 0)) (min (t.val % 42) 36) (y 1) := by
  intro n
  induction n with
  | zero =>
    intro t ht Z hZ y
    obtain ⟨Y, _, hs⟩ := hZ
    obtain ⟨y6, hz⟩ := (show (∀ h : t.val % 42 ≤ 36, ∃ y6, Z = at5 m c t h y6) ∧ (¬t.val % 42 ≤ 36 → Z = Y) from hs).1 (by omega)
    rw [hz, at5_apply, Nat.min_eq_left (by omega)]
  | succ n ih =>
    intro t ht Z hZ y
    obtain ⟨Y, hf, hs⟩ := hZ
    have hs' := (show (∀ h : t.val % 42 ≤ 36, ∃ y6, Z = at5 m c t h y6) ∧ (¬t.val % 42 ≤ 36 → Z = Y) from hs)
    by_cases h : t.val % 42 ≤ 36
    · obtain ⟨y6, hz⟩ := hs'.1 h
      rw [hz, at5_apply, Nat.min_eq_left (by omega)]
    · rw [hs'.2 h]
      rcases ((rdat m c).finds_of_pos (fetch_out t).1 (by omega) Y).mp hf with hx | hx
      · have := (flush_codes ⟨t.val - 1, by omega⟩ (by show 36 ≤ (t.val - 1) % 42; omega) (by show (t.val - 1) % 42 ≤ 40; omega)).1
        rw [this] at hx
        exact absurd hx (by decide)
      · exact (ih ⟨t.val - 1, by omega⟩ (by show t.val - 1 = n; omega) Y hx y).trans
          (congrArg₂ (fun r g => codeAt m c r g (y 1)) (row_pred t (by omega) (y 0)) (by show min ((t.val - 1) % 42) 36 = min (t.val % 42) 36; omega))

/-- At every point the widened codes' buffer holds those of the last feed-forward point. -/
theorem leaves7 (c : Dev nD) : ∀ (n : ℕ) (t : Fin cfg0.N), t.val = n → ∀ Z, (rdat m c).Leaves 7 t Z → ∀ y : S1024x128.Idx,
    (Z : Vec Ideal S1024x128 .bf16) y = (codeAt m c (row t (y 0)) (min (t.val % 42) 36) (y 1) * scaleAt m c (row t (y 0)) (min (t.val % 42) 36) : EReal) := by
  intro n
  induction n with
  | zero =>
    intro t ht Z hZ y
    obtain ⟨Y, _, hs⟩ := hZ
    obtain ⟨y6, hz⟩ := (show (∀ h : t.val % 42 ≤ 36, ∃ y6, Z = at7 m c t h y6) ∧ (¬t.val % 42 ≤ 36 → Z = Y) from hs).1 (by omega)
    rw [hz, at7_apply, Nat.min_eq_left (by omega)]
  | succ n ih =>
    intro t ht Z hZ y
    obtain ⟨Y, hf, hs⟩ := hZ
    have hs' := (show (∀ h : t.val % 42 ≤ 36, ∃ y6, Z = at7 m c t h y6) ∧ (¬t.val % 42 ≤ 36 → Z = Y) from hs)
    by_cases h : t.val % 42 ≤ 36
    · obtain ⟨y6, hz⟩ := hs'.1 h
      rw [hz, at7_apply, Nat.min_eq_left (by omega)]
    · rw [hs'.2 h]
      rcases ((rdat m c).finds_of_pos (fetch_out t).2.2 (by omega) Y).mp hf with hx | hx
      · have := (flush_codes ⟨t.val - 1, by omega⟩ (by show 36 ≤ (t.val - 1) % 42; omega) (by show (t.val - 1) % 42 ≤ 40; omega)).2
        rw [this] at hx
        exact absurd hx (by decide)
      · exact (ih ⟨t.val - 1, by omega⟩ (by show t.val - 1 = n; omega) Y hx y).trans
          (congrArg₂ (fun r g => (codeAt m c r g (y 1) * scaleAt m c r g : EReal)) (row_pred t (by omega) (y 0)) (by show min ((t.val - 1) % 42) 36 = min (t.val % 42) 36; omega))

/-- At every point the scales' buffer holds the scales of the groups up to the point's own. -/
theorem leaves6 (c : Dev nD) : ∀ (n : ℕ) (t : Fin cfg0.N), t.val = n → ∀ Z, (rdat m c).Leaves 6 t Z → ∀ y : S1024x37.Idx,
    (y 1).val ≤ t.val % 42 → (Z : Vec Ideal S1024x37 .f32) y = scaleAt m c (row t (y 0)) (y 1).val := by
  intro n
  induction n with
  | zero =>
    intro t ht Z hZ y hy
    obtain ⟨Y, _, hs⟩ := hZ
    have hz := (show (∀ h : t.val % 42 ≤ 36, Z = at6 m c t h Y) ∧ (¬t.val % 42 ≤ 36 → Z = Y) from hs).1 (by omega)
    have e : (y 1).val = t.val % 42 := by omega
    rw [hz, at6_apply, if_pos e, e]
  | succ n ih =>
    intro t ht Z hZ y hy
    obtain ⟨Y, hf, hs⟩ := hZ
    have hs' := (show (∀ h : t.val % 42 ≤ 36, Z = at6 m c t h Y) ∧ (¬t.val % 42 ≤ 36 → Z = Y) from hs)
    have hY : (y 1).val ≠ t.val % 42 → (Y : Vec Ideal S1024x37 .f32) y = scaleAt m c (row t (y 0)) (y 1).val := by
      intro hne
      rcases ((rdat m c).finds_of_pos (fetch_out t).2.1 (by omega) Y).mp hf with hx | hx
      · have : (t.val - 1) % 42 = 41 := (flush0_6 ⟨t.val - 1, by omega⟩).mp hx
        omega
      · exact (ih ⟨t.val - 1, by omega⟩ (by show t.val - 1 = n; omega) Y hx y (by show (y 1).val ≤ (t.val - 1) % 42; omega)).trans
          (congrArg (fun r => scaleAt m c r (y 1).val) (row_pred t (by omega) (y 0)))
    by_cases h : t.val % 42 ≤ 36
    · rw [hs'.1 h, at6_apply]
      by_cases e : (y 1).val = t.val % 42
      · rw [if_pos e, e]
      · rw [if_neg e, hY e]
    · rw [hs'.2 h]
      have : (y 1).val < 37 := (y 1).isLt
      exact hY (by omega)

end Cert.InProjIdeal.Body
end
-- ==== Proof.InFinal.lean ====
module

public import proofs.«01_k».proof.Proof.InValue

/-! The result arrays of the input projection: what every run of the kernel leaves in them. -/

@[expose] public section

set_option maxRecDepth 16384

noncomputable section

open Idealize.ShloMosaic Idealize.ShloMosaic.TcCoe Idealize.SL.Sem
open Cert.Quant

namespace Cert
variable (s : FVec Ideal InProjIdeal.S28x83 .f32) (x : FVec Ideal InProjIdeal.S8192x3584 .bf16)
  (w : FVec Ideal InProjIdeal.S3584x10624 .fp8e4m3)

/-- The queries, keys, values: the first columns of the projection. -/
def inQkv : FVec Ideal InProjIdeal.S8192x1280 .bf16 := fun y => inProj s x w (y 0) (Fin.ofNat 10624 (y 1).val)

/-- The codes of the feed-forward values, quantised by rows and groups of 128 columns. -/
def inCodes : FVec Ideal InProjIdeal.S8192x4736 .fp8e4m3 := fun y =>
  code (inGated s x w (y 0) ((y 1).val / 128) (Fin.ofNat 128 (y 1).val)) (top (inGated s x w (y 0) ((y 1).val / 128)))

/-- The scales of the groups. -/
def inScales : FVec Ideal InProjIdeal.S8192x37 .f32 := fun y => scale (top (inGated s x w (y 0) (y 1).val))

/-- The codes times their scales. -/
def inWide : FVec Ideal InProjIdeal.S8192x4736 .bf16 := fun y =>
  (code (inGated s x w (y 0) ((y 1).val / 128) (Fin.ofNat 128 (y 1).val)) (top (inGated s x w (y 0) ((y 1).val / 128)))
    * scale (top (inGated s x w (y 0) ((y 1).val / 128))) : EReal)
end Cert

namespace Cert.InProjIdeal.Body

open Cert.InProjIdeal Cert.InProjIdeal.Gen
open Idealize.ShloMosaic.Pipeline (Dat)

variable (m : (ℓ : Loc nD τ sig) → Buf (Elt Ideal) ℓ) (ρ : Dev nD → PrngReg)

/-- The projections are written back at the points that compute them only. -/
theorem flush_proj : ∀ t : Fin cfg0.N, (cfg0.win 4).flush t = true → ¬t.val % 42 ≤ 36 :=
  (by decide +kernel : ∀ t : Fin grid0.N, win0_4.flush t = true → ¬t.val % 42 ≤ 36)

section
variable (c : Dev nD) (after : (w : Fin cfg0.W) → Fin cfg0.N → (cfg0.win w).block.Idx → Elt Ideal (cfg0.win w).elt)
  (ha : ∀ (w : Fin cfg0.W) (u : Fin cfg0.N), (cfg0.win w).flush u = true → (rdat m c).Leaves w u (after w u))
include ha

theorem final4 : ((rdat m c).withAfter after).arrAt 4 cfg0.N = Cert.inQkv (S m c) (X m c) (W m c) := by
  refine ((rdat m c).withAfter after).arrAt_eq_of_covers 4 _ (by decide +kernel) fun t hf y => ?_
  have h := flush_proj t hf
  have e := leaves4 m c t h _ (ha 4 t hf)
  blk_simp
  rw [Pipeline.RDat.withAfter_after, e]
  have ht := lt_336 t
  have e0 : ((win0_4.blk t).view.emb y 0).val = t.val / 42 * 1024 + (y 0).val := by blk_point [idx t]
  have e1 : ((win0_4.blk t).view.emb y 1).val = (t.val % 42 - 37) * 256 + (y 1).val := by blk_point [idx t]
  have hy : (y 1).val < 256 := (y 1).isLt
  unfold Cert.inQkv
  rw [show Fin.ofNat 10624 ((win0_4.blk t).view.emb y 1).val = (⟨(t.val % 42 - 37) * 256 + (y 1).val, by omega⟩ : Fin 10624) from
    Fin.ext ((congrArg (· % 10624) e1).trans (Nat.mod_eq_of_lt (by omega)))]
  exact (at4_apply m c t h y _ rfl).trans (congrArg (fun r => Cert.inProj (S m c) (X m c) (W m c) r _) (Fin.ext e0.symm))

theorem final5 : ((rdat m c).withAfter after).arrAt 5 cfg0.N = Cert.inCodes (S m c) (X m c) (W m c) := by
  refine ((rdat m c).withAfter after).arrAt_eq_of_covers 5 _ (by decide +kernel) fun t hf y => ?_
  have e := leaves5 m c _ t rfl _ (ha 5 t hf) y
  blk_simp
  rw [Pipeline.RDat.withAfter_after]
  refine e.trans ?_
  have ht := lt_336 t
  have e0 : ((win0_5.blk t).view.emb y 0).val = t.val / 42 * 1024 + (y 0).val := by blk_point [idx t]
  have e1 : ((win0_5.blk t).view.emb y 1).val = min (t.val % 42) 36 * 128 + (y 1).val := by blk_point [idx t]
  have hy : (y 1).val < 128 := (y 1).isLt
  have hg : ((win0_5.blk t).view.emb y 1).val / 128 = min (t.val % 42) 36 := by omega
  have hl : Fin.ofNat 128 ((win0_5.blk t).view.emb y 1).val = y 1 := Fin.ext (show _ % 128 = (y 1).val by omega)
  have hr : (win0_5.blk t).view.emb y 0 = row t (y 0) := Fin.ext e0
  unfold Cert.inCodes
  rw [hg, hl, hr]
  rfl

theorem final6 : ((rdat m c).withAfter after).arrAt 6 cfg0.N = Cert.inScales (S m c) (X m c) (W m c) := by
  refine ((rdat m c).withAfter after).arrAt_eq_of_covers 6 _ (by decide +kernel) fun t hf y => ?_
  have h41 := (flush0_6 t).mp hf
  have hy : (y 1).val < 37 := (y 1).isLt
  have e := leaves6 m c _ t rfl _ (ha 6 t hf) y (by omega)
  blk_simp
  rw [Pipeline.RDat.withAfter_after]
  refine e.trans ?_
  have ht := lt_336 t
  have e0 : ((win0_6.blk t).view.emb y 0).val = t.val / 42 * 1024 + (y 0).val := by blk_point [idx t]
  have e1 : ((win0_6.blk t).view.emb y 1).val = (y 1).val := by blk_point [idx t]
  have hr : (win0_6.blk t).view.emb y 0 = row t (y 0) := Fin.ext e0
  unfold Cert.inScales
  rw [e1, hr]
  rfl

theorem final7 : ((rdat m c).withAfter after).arrAt 7 cfg0.N = Cert.inWide (S m c) (X m c) (W m c) := by
  refine ((rdat m c).withAfter after).arrAt_eq_of_covers 7 _ (by decide +kernel) fun t hf y => ?_
  have e := leaves7 m c _ t rfl _ (ha 7 t hf) y
  blk_simp
  rw [Pipeline.RDat.withAfter_after]
  refine e.trans ?_
  have ht := lt_336 t
  have e0 : ((win0_7.blk t).view.emb y 0).val = t.val / 42 * 1024 + (y 0).val := by blk_point [idx t]
  have e1 : ((win0_7.blk t).view.emb y 1).val = min (t.val % 42) 36 * 128 + (y 1).val := by blk_point [idx t]
  have hy : (y 1).val < 128 := (y 1).isLt
  have hg : ((win0_7.blk t).view.emb y 1).val / 128 = min (t.val % 42) 36 := by omega
  have hl : Fin.ofNat 128 ((win0_7.blk t).view.emb y 1).val = y 1 := Fin.ext (show _ % 128 = (y 1).val by omega)
  have hr : (win0_7.blk t).view.emb y 0 = row t (y 0) := Fin.ext e0
  unfold Cert.inWide
  rw [hg, hl, hr]
  rfl

end

/-- Every run of the kernel ends with the four arrays and its arguments unchanged. -/
theorem run : θ_run defs (onTc (τ := τ) (main (F := Ideal))) ⟨m, fun _ => 0, ρ⟩ fun r => ∀ c : Dev nD,
      r.2.mem ((c.tc : Thread nD τ).loc main_v0_0) = Cert.inQkv (S m c) (X m c) (W m c)
      ∧ r.2.mem ((c.tc : Thread nD τ).loc main_v0_1) = Cert.inCodes (S m c) (X m c) (W m c)
      ∧ r.2.mem ((c.tc : Thread nD τ).loc main_v0_2) = Cert.inScales (S m c) (X m c) (W m c)
      ∧ r.2.mem ((c.tc : Thread nD τ).loc main_v0_3) = Cert.inWide (S m c) (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => by
    obtain ⟨after, ha, hm⟩ := Pipeline.RDat.FramePost.exists_exact h.1 c
    exact ⟨(hm 4).trans (final4 m c after ha), (hm 5).trans (final5 m c after ha), (hm 6).trans (final6 m c after ha),
      (hm 7).trans (final7 m c after ha),
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 3 rfl).trans ((A_eq m c 3).trans (V_main_arg2 m c))⟩) (run_main_quiescent m ρ)

end Cert.InProjIdeal.Body
end
-- ==== Proof.InRef.lean ====
module

public import proofs.«01_k».proof.Proof.InFinal
public import proofs.«01_k».proof.Proof.Gen.InProjRefIdeal.Value

/-! The result arrays of the input projection's reference. -/

@[expose] public section

set_option maxRecDepth 16384

noncomputable section

namespace Cert.InProjRefIdeal.Body

open Cert.InProjRefIdeal Cert.InProjRefIdeal.Gen Idealize.ShloMosaic Idealize.ShloMosaic.TcCoe Idealize.SL.Sem
open Cert.Blocks Cert.Quant

/-! ## What the body's values are -/

section
variable (v0 : Vec Ideal S8192x3584 .bf16) (v1 : Vec Ideal S3584x10624 .fp8e4m3) (v2 : Vec Ideal S28x83 .f32)

/-- The product is the projection. -/
theorem pay6_apply (y : S8192x10624.Idx) : k0_pay6 v0 v1 v2 y = Cert.inProj v2 v0 v1 (y 0) (y 1) := by
  have hy : (y 1).val < 10624 := (y 1).isLt
  unfold k0_pay6
  pointwise []
  refine Finset.sum_congr rfl fun x _ => mul_eq rfl (mul_eq rfl ?_)
  refine congrArg₂ (fun a b => v2 (ix2 a b)) (Fin.ext ?_) (Fin.ext ?_)
  · exact (Nat.mod_eq_of_lt (by omega)).symm
  · exact (Nat.mod_eq_of_lt (by omega)).symm

/-- Its first columns. -/
theorem pay7_apply (y : S8192x1280.Idx) : k0_pay7 v0 v1 v2 y = Cert.inQkv v2 v0 v1 y := by
  have hy : (y 1).val < 1280 := (y 1).isLt
  have h := pay6_apply v0 v1 v2
  unfold k0_pay7
  generalize k0_pay6 v0 v1 v2 = A at h ⊢
  pointwise []
  rw [h]
  exact congrArg (Cert.inProj v2 v0 v1 (y 0)) (Fin.ext (Nat.mod_eq_of_lt (by show (y 1).val < 10624; omega)).symm)

/-- The gated values by groups. -/
theorem pay8_apply (y : S8192x37x128.Idx) : k0_pay8 v0 v1 v2 y = Cert.inGated v2 v0 v1 (y 0) (y 1).val (y 2) := by
  have h1 : (y 1).val < 37 := (y 1).isLt
  have h2 : (y 2).val < 128 := (y 2).isLt
  have h := pay6_apply v0 v1 v2
  unfold k0_pay8
  generalize k0_pay6 v0 v1 v2 = A at h ⊢
  pointwise []
  rw [h, h]
  have e1 : ∀ p : 1152 + ((y 1).val * 128 + (y 2).val) < 10624, (⟨1152 + ((y 1).val * 128 + (y 2).val), p⟩ : Fin 10624)
      = Fin.ofNat 10624 (1152 + ((y 1).val * 128 + (y 2).val)) := fun p => Fin.ext (Nat.mod_eq_of_lt p).symm
  have e2 : ∀ p : 5888 + ((y 1).val * 128 + (y 2).val) < 10624, (⟨5888 + ((y 1).val * 128 + (y 2).val), p⟩ : Fin 10624)
      = Fin.ofNat 10624 (5888 + ((y 1).val * 128 + (y 2).val)) := fun p => Fin.ext (Nat.mod_eq_of_lt p).symm
  unfold Cert.inGated
  rw [← e1 (by omega), ← e2 (by omega)]
  rfl

/-- The largest magnitude of every group, over 448. -/
theorem pay9_apply (y : S8192x37.Idx) : k0_pay9 v0 v1 v2 y = top (Cert.inGated v2 v0 v1 (y 0) (y 1).val) := by
  have h := pay8_apply v0 v1 v2
  unfold k0_pay9
  generalize k0_pay8 v0 v1 v2 = A at h ⊢
  exact (top_r3 A _ _ _ y).trans (congrArg top (funext fun l => h (ix3 (y 0) (y 1) l)))

/-- The count of the powers of two that are at most it. -/
theorem pay10_apply (y : S8192x37.Idx) : k0_pay10 v0 v1 v2 y = IntOp.subi (count (k0_pay9 v0 v1 v2 y)) 126#32 := by
  unfold k0_pay10
  generalize k0_pay9 v0 v1 v2 = A
  pointwise []
  exact congrArg (fun n => IntOp.subi n 126#32) (count_words (A y))

/-- The exponent. -/
theorem pay1_apply (y : S8192x37.Idx) :
    k0_pay1 (k0_pay9 v0 v1 v2) (k0_pay10 v0 v1 v2) (k0_pay11 v0 v1 v2) (Scalar.ofBits .f32 0x7F800000#32) y
      = exponent (k0_pay9 v0 v1 v2 y) := by
  have h := pay10_apply v0 v1 v2
  unfold k0_pay1 k0_pay11
  generalize k0_pay10 v0 v1 v2 = B at h ⊢
  generalize k0_pay9 v0 v1 v2 = A at h ⊢
  exact exponent_apply A B y (h y)
end

/-! ## The quantiser -/

section
variable (v19 : FVec Ideal S8192x37x128 .f32) (v23 : FVec Ideal S8192x37 .f32) (v38 : IVec S8192x37 32) (v40 : IVec S8192x37 1)
  (he : ∀ z, k0_pay1 v23 v38 v40 (Scalar.ofBits .f32 0x7F800000#32) z = exponent (v23 z))
include he

theorem pay2_apply (y : S8192x37.Idx) : k0_pay2 v23 v38 v40 (Scalar.ofBits .f32 0x7F800000#32) y = scale (v23 y) := by
  unfold k0_pay2
  generalize k0_pay1 v23 v38 v40 (Scalar.ofBits .f32 0x7F800000#32) = B at he ⊢
  pointwise []
  rw [he]
  exact ref_scale (v23 y)

theorem pay3_apply (y : S8192x37x128.Idx) : k0_pay3 v19 v23 v38 v40 (Scalar.ofBits .f32 0x7F800000#32) y
    = code (v19 y) (v23 (ix2 (y 0) (y 1))) := by
  unfold k0_pay3
  generalize k0_pay1 v23 v38 v40 (Scalar.ofBits .f32 0x7F800000#32) = B at he ⊢
  pointwise []
  rw [he]
  unfold code
  rw [← ref_inv]

theorem pay4_apply (y : S8192x4736.Idx) : k0_pay4 v19 v23 v38 v40 (Scalar.ofBits .f32 0x7F800000#32) y
    = code (v19 (ix3 (y 0) (Fin.ofNat 37 ((y 1).val / 128)) (Fin.ofNat 128 (y 1).val))) (v23 (ix2 (y 0) (Fin.ofNat 37 ((y 1).val / 128)))) := by
  have hy : (y 1).val < 4736 := (y 1).isLt
  have h := pay3_apply v19 v23 v38 v40 he
  unfold k0_pay4
  generalize k0_pay3 v19 v23 v38 v40 (Scalar.ofBits .f32 0x7F800000#32) = B at h ⊢
  pointwise []
  rw [h]
  have e : ∀ p : (y 1).val / 128 < 37, (⟨(y 1).val / 128, p⟩ : Fin 37) = Fin.ofNat 37 ((y 1).val / 128) :=
    fun p => Fin.ext (Nat.mod_eq_of_lt p).symm
  rw [← e (by omega)]
  rfl

theorem pay5_apply (y : S8192x4736.Idx) : k0_pay5 v19 v23 v38 v40 (Scalar.ofBits .f32 0x7F800000#32) y
    = (code (v19 (ix3 (y 0) (Fin.ofNat 37 ((y 1).val / 128)) (Fin.ofNat 128 (y 1).val))) (v23 (ix2 (y 0) (Fin.ofNat 37 ((y 1).val / 128))))
      * scale (v23 (ix2 (y 0) (Fin.ofNat 37 ((y 1).val / 128)))) : EReal) := by
  have hy : (y 1).val < 4736 := (y 1).isLt
  have h := pay3_apply v19 v23 v38 v40 he
  have h2 := pay2_apply v23 v38 v40 he
  unfold k0_pay5
  generalize k0_pay3 v19 v23 v38 v40 (Scalar.ofBits .f32 0x7F800000#32) = B at h ⊢
  generalize k0_pay2 v23 v38 v40 (Scalar.ofBits .f32 0x7F800000#32) = C at h2 ⊢
  pointwise []
  rw [h, h2]
  have e : ∀ p : (y 1).val / 128 < 37, (⟨(y 1).val / 128, p⟩ : Fin 37) = Fin.ofNat 37 ((y 1).val / 128) :=
    fun p => Fin.ext (Nat.mod_eq_of_lt p).symm
  rw [← e (by omega)]
  rfl
end

/-! ## The arrays -/

section
variable (m : (ℓ : Loc nD τ sig) → Buf (Elt Ideal) ℓ)

/-- The argument arrays: the scales, the activations, the weights. -/
abbrev S (c : Dev nD) : FVec Ideal S28x83 .f32 := m ((c : Thread nD τ).loc main_arg0)
abbrev X (c : Dev nD) : FVec Ideal S8192x3584 .bf16 := m ((c : Thread nD τ).loc main_arg1)
abbrev W (c : Dev nD) : FVec Ideal S3584x10624 .fp8e4m3 := m ((c : Thread nD τ).loc main_arg2)

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem blk0 (c : Dev nD) : View.ld (iblk m c 0 t0_0 : Vec Ideal S28x83 .f32) r0_2 = S m c := by
  funext y
  unfold r0_2
  blk_point [iblk, idx t0_0]

theorem blk1 (c : Dev nD) : View.ld (iblk m c 1 t0_0 : Vec Ideal S8192x3584 .bf16) r0_0 = X m c := by
  funext y
  unfold r0_0
  blk_point [iblk, idx t0_0]

theorem blk2 (c : Dev nD) : View.ld (iblk m c 2 t0_0 : Vec Ideal S3584x10624 .fp8e4m3) r0_1 = W m c := by
  funext y
  unfold r0_1
  blk_point [iblk, idx t0_0]

theorem pay12_eq (c : Dev nD) : k0_pay12 (iblk m c 0 t0_0) (iblk m c 1 t0_0) (iblk m c 2 t0_0) = k0_pay8 (F := Ideal) (X m c) (W m c) (S m c) := by
  unfold k0_pay12
  rw [blk0, blk1, blk2]

theorem pay13_eq (c : Dev nD) : k0_pay13 (iblk m c 0 t0_0) (iblk m c 1 t0_0) (iblk m c 2 t0_0) = k0_pay9 (F := Ideal) (X m c) (W m c) (S m c) := by
  unfold k0_pay13
  rw [blk0, blk1, blk2]

theorem pay14_eq (c : Dev nD) : k0_pay14 (iblk m c 0 t0_0) (iblk m c 1 t0_0) (iblk m c 2 t0_0) = k0_pay10 (F := Ideal) (X m c) (W m c) (S m c) := by
  unfold k0_pay14
  rw [blk0, blk1, blk2]

theorem pay15_eq (c : Dev nD) : k0_pay15 (iblk m c 0 t0_0) (iblk m c 1 t0_0) (iblk m c 2 t0_0) = k0_pay11 (F := Ideal) (X m c) (W m c) (S m c) := by
  unfold k0_pay15
  rw [blk0, blk1, blk2]

/-- The group of a column. -/
theorem group_eq (y : S8192x4736.Idx) : (Fin.ofNat 37 ((y 1).val / 128)).val = (y 1).val / 128 := by
  have hy : (y 1).val < 4736 := (y 1).isLt
  exact Nat.mod_eq_of_lt (by omega)

theorem codes_group (s : FVec Ideal S28x83 .f32) (x : FVec Ideal S8192x3584 .bf16) (w : FVec Ideal S3584x10624 .fp8e4m3) (y : S8192x4736.Idx) :
    code (Cert.inGated s x w (y 0) (Fin.ofNat 37 ((y 1).val / 128)).val (Fin.ofNat 128 (y 1).val)) (top (Cert.inGated s x w (y 0) (Fin.ofNat 37 ((y 1).val / 128)).val))
      = Cert.inCodes s x w y := by
  rw [group_eq]
  rfl

theorem wide_group (s : FVec Ideal S28x83 .f32) (x : FVec Ideal S8192x3584 .bf16) (w : FVec Ideal S3584x10624 .fp8e4m3) (y : S8192x4736.Idx) :
    (code (Cert.inGated s x w (y 0) (Fin.ofNat 37 ((y 1).val / 128)).val (Fin.ofNat 128 (y 1).val)) (top (Cert.inGated s x w (y 0) (Fin.ofNat 37 ((y 1).val / 128)).val))
      * scale (top (Cert.inGated s x w (y 0) (Fin.ofNat 37 ((y 1).val / 128)).val)) : EReal)
      = Cert.inWide s x w y := by
  rw [group_eq]
  rfl

/-- The projections. -/
theorem final3 (c : Dev nD) : (dats m 0 c).arrAt 3 cfg0.N = Cert.inQkv (S m c) (X m c) (W m c) := by
  refine (dats m 0 c).arrAt_eq_of_after_last 3 t0_0 (by decide +kernel) _ fun y => ?_
  blk_simp
  rw [after0_3]
  unfold out0_3
  rw [blk0, blk1, blk2]
  have h := pay7_apply (X m c) (W m c) (S m c)
  generalize k0_pay7 (F := Ideal) (X m c) (W m c) (S m c) = A at h ⊢
  frame_out
  exact h _

/-- The codes. -/
theorem final4 (c : Dev nD) : (dats m 0 c).arrAt 4 cfg0.N = Cert.inCodes (S m c) (X m c) (W m c) := by
  refine (dats m 0 c).arrAt_eq_of_after_last 4 t0_0 (by decide +kernel) _ fun y => ?_
  blk_simp
  rw [after0_4]
  unfold out0_4
  rw [pay12_eq, pay13_eq, pay14_eq, pay15_eq]
  have hg := pay8_apply (X m c) (W m c) (S m c)
  have ht := pay9_apply (X m c) (W m c) (S m c)
  have he := pay1_apply (X m c) (W m c) (S m c)
  generalize k0_pay8 (F := Ideal) (X m c) (W m c) (S m c) = G at hg ht he ⊢
  generalize k0_pay9 (F := Ideal) (X m c) (W m c) (S m c) = T at ht he ⊢
  generalize k0_pay10 (F := Ideal) (X m c) (W m c) (S m c) = B at he ⊢
  generalize k0_pay11 (F := Ideal) (X m c) (W m c) (S m c) = E at he ⊢
  have h := pay4_apply G T B E he
  generalize k0_pay4 (F := Ideal) G T B E (Scalar.ofBits .f32 0x7F800000#32) = A at h ⊢
  frame_out
  refine (h _).trans ?_
  rw [hg, ht]
  exact codes_group _ _ _ y

/-- The scales. -/
theorem final5 (c : Dev nD) : (dats m 0 c).arrAt 5 cfg0.N = Cert.inScales (S m c) (X m c) (W m c) := by
  refine (dats m 0 c).arrAt_eq_of_after_last 5 t0_0 (by decide +kernel) _ fun y => ?_
  blk_simp
  rw [after0_5]
  unfold out0_5
  rw [pay13_eq, pay14_eq, pay15_eq]
  have ht := pay9_apply (X m c) (W m c) (S m c)
  have he := pay1_apply (X m c) (W m c) (S m c)
  generalize k0_pay9 (F := Ideal) (X m c) (W m c) (S m c) = T at ht he ⊢
  generalize k0_pay10 (F := Ideal) (X m c) (W m c) (S m c) = B at he ⊢
  generalize k0_pay11 (F := Ideal) (X m c) (W m c) (S m c) = E at he ⊢
  have h := pay2_apply T B E he
  generalize k0_pay2 (F := Ideal) T B E (Scalar.ofBits .f32 0x7F800000#32) = A at h ⊢
  frame_out
  refine (h _).trans ?_
  rw [ht]
  rfl

/-- The widened codes. -/
theorem final6 (c : Dev nD) : (dats m 0 c).arrAt 6 cfg0.N = Cert.inWide (S m c) (X m c) (W m c) := by
  refine (dats m 0 c).arrAt_eq_of_after_last 6 t0_0 (by decide +kernel) _ fun y => ?_
  blk_simp
  rw [after0_6]
  unfold out0_6
  rw [pay12_eq, pay13_eq, pay14_eq, pay15_eq]
  have hg := pay8_apply (X m c) (W m c) (S m c)
  have ht := pay9_apply (X m c) (W m c) (S m c)
  have he := pay1_apply (X m c) (W m c) (S m c)
  generalize k0_pay8 (F := Ideal) (X m c) (W m c) (S m c) = G at hg ht he ⊢
  generalize k0_pay9 (F := Ideal) (X m c) (W m c) (S m c) = T at ht he ⊢
  generalize k0_pay10 (F := Ideal) (X m c) (W m c) (S m c) = B at he ⊢
  generalize k0_pay11 (F := Ideal) (X m c) (W m c) (S m c) = E at he ⊢
  have h := pay5_apply G T B E he
  generalize k0_pay5 (F := Ideal) G T B E (Scalar.ofBits .f32 0x7F800000#32) = A at h ⊢
  frame_out
  refine (h _).trans ?_
  rw [hg, ht]
  exact wide_group _ _ _ y
end

end Cert.InProjRefIdeal.Body
end
-- ==== Proof.InClaims.lean ====
module

public import proofs.«01_k».proof.Defs
public import proofs.«01_k».proof.Proof.Gen.InProj.Frame
public import proofs.«01_k».proof.Proof.InRef
public import Idealize.ShloMosaic.Lib.Claim

/-! The claim about the values of the input projection. -/

@[expose] public section

set_option maxRecDepth 16384

noncomputable section

namespace Cert.InClaims

open Idealize.ShloMosaic Idealize.ShloMosaic.TcCoe Idealize.SL.Sem

/-- Over the reals the kernel and its reference, run on equal arguments, end with equal results: the projections, the
codes, the scales and the widened codes. -/
theorem algebraic : Cert.algebraic_InProjIdeal_InProjRefIdeal (hInProjIdeal := Cert.InProjIdeal.Gen.facts)
    (hInProjRefIdeal := Cert.InProjRefIdeal.Gen.facts) := by
  intro m g m' g' _ hargs
  refine ⟨_, _, _, _, Cert.InProjIdeal.Body.run m g, ?_⟩
  refine (θ_run (Cert.InProjRefIdeal.defs (F := Ideal)) _ _).mono (fun r h c => ?_) (Cert.InProjRefIdeal.Value.run_blocks m' g')
  obtain ⟨h0, h1, h2, h3, hrest⟩ := h c
  obtain ⟨e0, e1, e2⟩ := hargs c
  have e {α : Type} (f : FVec Ideal Cert.InProjIdeal.S28x83 .f32 → FVec Ideal Cert.InProjIdeal.S8192x3584 .bf16
      → FVec Ideal Cert.InProjIdeal.S3584x10624 .fp8e4m3 → α) :
      f (Cert.InProjRefIdeal.Body.S m' c) (Cert.InProjRefIdeal.Body.X m' c) (Cert.InProjRefIdeal.Body.W m' c)
        = f (Cert.InProjIdeal.Body.S m c) (Cert.InProjIdeal.Body.X m c) (Cert.InProjIdeal.Body.W m c) :=
    congr (congr (congrArg f e0) e1) e2
  exact ⟨h0.trans ((Cert.InProjRefIdeal.Body.final3 m' c).trans (e Cert.inQkv)),
    h1.trans ((Cert.InProjRefIdeal.Body.final4 m' c).trans (e Cert.inCodes)),
    h2.trans ((Cert.InProjRefIdeal.Body.final5 m' c).trans (e Cert.inScales)),
    h3.trans ((Cert.InProjRefIdeal.Body.final6 m' c).trans (e Cert.inWide)), hrest⟩

end Cert.InClaims
end
-- ==== Proof.DownWide.lean ====
module

public import proofs.«01_k».proof.Proof.Gen.DownIdeal.Value
public import proofs.«01_k».proof.Proof.Concat

/-! The widened weights of one block of the down projection: 37 row blocks of 128 rows, each the fp8 rows times
their scale, one column tile of 128 columns after the other. -/

@[expose] public section

set_option maxRecDepth 16384

noncomputable section

namespace Cert.DownIdeal.Body

open Cert.DownIdeal Cert.DownIdeal.Gen Idealize.ShloMosaic Idealize.ShloMosaic.TcCoe Idealize.SL.Sem
open Idealize.ShloMosaic.Pipeline (Dat)
open Cert.Blocks

/-- The widened weight at row `y 0` of row block `n` and column `y 1` of column tile `h` of block column `j`: the fp8
weight times the scale of its 128 by 128 tile. -/
abbrev wide (x0 : Vec Ideal S37x28 .f32) (x2 : Vec Ideal S4736x256 .fp8e4m3) (j h : ℕ) (n : ℕ) (y : S128x128.Idx) : EReal :=
  x2 (ix2 (Fin.ofNat 4736 (128 * n + (y 0).val)) (Fin.ofNat 256 (128 * h + (y 1).val))) * x0 (ix2 (Fin.ofNat 37 n) (Fin.ofNat 28 (2 * j + h)))

set_option maxHeartbeats 2000000 in
/-- The first column tile of the widened weights, block by block. -/
theorem wide_left (c : Dev nD) (i : grid0.Coords) (arg2 : Memref sig .tc .smem S37x28 .f32) (harg2 : arg2.IsWhole)
    (arg4 : Memref sig .tc .vmem S4736x256 .fp8e4m3) (harg4 : arg4.IsWhole)
    (x0 : Vec Ideal S37x28 .f32) (x2 : Vec Ideal S4736x256 .fp8e4m3) (k : S4736x128.Idx) :
    kernelRun0_A.sl.r_78 c i arg2 harg2 arg4 harg4 x0 x2 k
      = wide x0 x2 (i 1).val 0 ((k 0).val / 128) (ix2 (Fin.ofNat 128 (k 0).val) (k 1)) := by
  have h14 : (i 1).val < 14 := (i 1).isLt
  have hw : BitVec.toNat (Scalar.indexCast (Scalar.muli (2#32) (BitVec.ofNat 32 (i 1).val))) = 2 * (i 1).val + 0 := congrFun (k0_off1_eq i) 1
  unfold kernelRun0_A.sl.r_78 k0_pay41
  refine concat_eq (t := S4736x128) (s₁ := S128x128) _ _ (G := wide x0 x2 (i 1).val 0) ?_ _ rfl 128 rfl k
    (ix2 (Fin.ofNat 128 (k 0).val) (k 1)) rfl ?_
  · repeat'
      first
      | exact trivial
      | refine And.intro ⟨_, rfl, fun y => ?_⟩ ?_
    all_goals
      sl_unfold_words
      unfold_payloads
      show (_ : EReal) * _ = _
      exact mul_eq (ld_within harg4 x2 _ _ _ y (by decide) (by decide))
        (ld_one harg2 x0 (congrArg (fun z => ![_, z]) hw) (by decide) (by omega) _ _)
  · intro b hb
    match b with
    | ⟨0, _⟩ => exact absurd rfl hb
    | ⟨1, _⟩ => rfl

set_option maxHeartbeats 2000000 in
/-- The second column tile of the widened weights, block by block. -/
theorem wide_right (c : Dev nD) (i : grid0.Coords) (arg2 : Memref sig .tc .smem S37x28 .f32) (harg2 : arg2.IsWhole)
    (arg4 : Memref sig .tc .vmem S4736x256 .fp8e4m3) (harg4 : arg4.IsWhole)
    (x0 : Vec Ideal S37x28 .f32) (x2 : Vec Ideal S4736x256 .fp8e4m3) (k : S4736x128.Idx) :
    kernelRun0_A.sl.v670 c i arg2 harg2 arg4 harg4 x0 x2 k
      = wide x0 x2 (i 1).val 1 ((k 0).val / 128) (ix2 (Fin.ofNat 128 (k 0).val) (k 1)) := by
  have h14 : (i 1).val < 14 := (i 1).isLt
  have hw : BitVec.toNat (Scalar.indexCast (Scalar.addi (Scalar.muli (2#32) (BitVec.ofNat 32 (i 1).val)) 1#32)) = 2 * (i 1).val + 1 := congrFun (k0_off38_eq i) 1
  unfold kernelRun0_A.sl.v670
  refine concat_eq (t := S4736x128) (s₁ := S128x128) _ _ (G := wide x0 x2 (i 1).val 1) ?_ _ rfl 128 rfl k
    (ix2 (Fin.ofNat 128 (k 0).val) (k 1)) rfl ?_
  · repeat'
      first
      | exact trivial
      | refine And.intro ⟨_, rfl, fun y => ?_⟩ ?_
    all_goals
      sl_unfold_words
      unfold_payloads
      show (_ : EReal) * _ = _
      exact mul_eq (ld_within harg4 x2 _ _ _ y (by decide) (by decide))
        (ld_one harg2 x0 (congrArg (fun z => ![_, z]) hw) (by decide) (by omega) _ _)
  · intro b hb
    match b with
    | ⟨0, _⟩ => exact absurd rfl hb
    | ⟨1, _⟩ => rfl

end Cert.DownIdeal.Body
end
-- ==== Proof.DownBody.lean ====
module

public import proofs.«01_k».proof.Proof.DownWide

/-! The value of one block of the down projection and, over all blocks, of its result array. -/

@[expose] public section

set_option maxRecDepth 16384

noncomputable section

namespace Cert.DownIdeal.Body

open Cert.DownIdeal Cert.DownIdeal.Gen Idealize.ShloMosaic Idealize.ShloMosaic.TcCoe Idealize.SL.Sem
open Idealize.ShloMosaic.Pipeline (Dat)
open Cert.Blocks

variable (m : (ℓ : Loc nD τ sig) → Buf (Elt Ideal) ℓ)

/-- What the body stores at row `y 0` and column `y 1` of its block: the residual plus the row of codes times the
column of widened weights. -/
theorem body_apply (c : Dev nD) (i : grid0.Coords) (arg2 : Memref sig .tc .smem S37x28 .f32) (harg2 : arg2.IsWhole)
    (arg3 : Memref sig .tc .vmem S1024x4736 .bf16) (harg3 : arg3.IsWhole)
    (arg4 : Memref sig .tc .vmem S4736x256 .fp8e4m3) (harg4 : arg4.IsWhole)
    (arg5 : Memref sig .tc .vmem S1024x256 .bf16) (harg5 : arg5.IsWhole)
    (arg6 : Memref sig .tc .vmem S1024x256 .bf16) (harg6 : arg6.IsWhole)
    (x0 : Vec Ideal S37x28 .f32) (x1 : Vec Ideal S1024x4736 .bf16) (x2 : Vec Ideal S4736x256 .fp8e4m3)
    (x3 : Vec Ideal S1024x256 .bf16) (y : S1024x256.Idx) :
    out0_A_4 c i arg2 harg2 arg3 harg3 arg4 harg4 arg5 harg5 arg6 harg6 x0 x1 x2 x3 y
      = ((x3 y : EReal) + ∑ k : Fin 4736, (x1 (ix2 (y 0) k) : EReal) * ((x2 (ix2 k (y 1)) : EReal)
          * x0 (ix2 (Fin.ofNat 37 (k.val / 128)) (Fin.ofNat 28 (2 * (i 1).val + (y 1).val / 128)))) : EReal) := by
  have hr := wide_right c i arg2 harg2 arg4 harg4 x0 x2
  have hl := wide_left c i arg2 harg2 arg4 harg4 x0 x2
  unfold out0_A_4 kernelRun0_A
  dsimp only
  generalize kernelRun0_A.sl.v670 c i arg2 harg2 arg4 harg4 x0 x2 = R at hr ⊢
  generalize kernelRun0_A.sl.r_78 c i arg2 harg2 arg4 harg4 x0 x2 = L at hl ⊢
  frame_out
  pointwise [k0_pay87]
  refine congrArg (fun z : EReal => (x3 y : EReal) + z) (Finset.sum_congr rfl fun k _ => mul_eq rfl ?_)
  have hk : 128 * (k.val / 128) + k.val % 128 = k.val := Nat.div_add_mod _ _
  have hk' : k.val < 4736 := k.isLt
  have hy : (y 1).val < 256 := (y 1).isLt
  by_cases h : (y 1).val < 128
  · rw [dif_pos h]
    have e : (y 1).val / 128 = 0 := Nat.div_eq_of_lt h
    refine (hl _).trans (mul_eq (congrArg x2 ?_) (congrArg x0 ?_))
    · refine funext fun a => Fin.ext ?_
      match a with
      | ⟨0, _⟩ => show (128 * (k.val / 128) + k.val % 128) % 4736 = k.val; omega
      | ⟨1, _⟩ => show (128 * 0 + (y 1).val) % 256 = (y 1).val; omega
    · rw [e]; rfl
  · rw [dif_neg h]
    have e : (y 1).val / 128 = 1 := by omega
    refine (hr _).trans (mul_eq (congrArg x2 ?_) (congrArg x0 ?_))
    · refine funext fun a => Fin.ext ?_
      match a with
      | ⟨0, _⟩ => show (128 * (k.val / 128) + k.val % 128) % 4736 = k.val; omega
      | ⟨1, _⟩ => show (128 * 1 + ((y 1).val - 128)) % 256 = (y 1).val; omega
    · rw [e]; rfl

end Cert.DownIdeal.Body
end
-- ==== Proof.DownValue.lean ====
module

public import proofs.«01_k».proof.Proof.DownBody
public import proofs.«01_k».proof.Proof.Gen.DownRefIdeal.Value

/-! The value of the down projection's result array, and of its reference's. -/

@[expose] public section

set_option maxRecDepth 16384

noncomputable section

open Idealize.ShloMosaic Idealize.ShloMosaic.TcCoe Idealize.SL.Sem
open Idealize.ShloMosaic.Pipeline (Dat)

/-- The down projection, written on its arguments: at row `r` and column `q` the residual plus the row of codes times
the column of weights, each weight times the scale of its 128 by 128 tile. -/
def Cert.downValue (s : FVec Ideal Cert.DownIdeal.S37x28 .f32) (h : FVec Ideal Cert.DownIdeal.S8192x4736 .bf16)
    (w : FVec Ideal Cert.DownIdeal.S4736x3584 .fp8e4m3) (x : FVec Ideal Cert.DownIdeal.S8192x3584 .bf16) :
    FVec Ideal Cert.DownIdeal.S8192x3584 .bf16 := fun y =>
  ((x y : EReal) + ∑ k : Fin 4736, (h (ix2 (y 0) k) : EReal) * ((w (ix2 k (y 1)) : EReal)
    * s (ix2 (Fin.ofNat 37 (k.val / 128)) (Fin.ofNat 28 ((y 1).val / 128)))) : EReal)

namespace Cert.DownIdeal.Body
open Cert.DownIdeal Cert.DownIdeal.Gen
variable (m : (ℓ : Loc nD τ sig) → Buf (Elt Ideal) ℓ)

/-- The windows' block indices. -/
theorem idx : ∀ t : Fin cfg0.N, win0_0.index t = ![0, 0] ∧ win0_1.index t = ![(grid0.coords t 0).val, 0]
    ∧ win0_2.index t = ![0, (grid0.coords t 1).val] ∧ win0_3.index t = ![(grid0.coords t 0).val, (grid0.coords t 1).val]
    ∧ win0_4.index t = ![(grid0.coords t 0).val, (grid0.coords t 1).val] :=
  (by decide +kernel : ∀ t : Fin grid0.N, _)

/-- After every block the array holds the down projection of the arguments. -/
theorem final (c : Dev nD) : (dats m 0 c).arrAt 4 cfg0.N
    = Cert.downValue (m ((c : Thread nD τ).loc main_arg0)) (m ((c : Thread nD τ).loc main_arg1))
        (m ((c : Thread nD τ).loc main_arg2)) (V m c main_v0) := by
  refine (dats m 0 c).arrAt_eq_of_covers 4 _ (by decide +kernel) fun t _ y => ?_
  blk_simp
  rw [after0_4, outsAt0, body_apply]
  unfold Cert.downValue
  blk_point [iblk, idx t]
  exact congrArg (· % 28) (by omega)

end Cert.DownIdeal.Body
namespace Cert.DownRefIdeal.Body
open Cert.DownRefIdeal Cert.DownRefIdeal.Gen
variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The reference's result array is the down projection of its arguments. -/
theorem final (c : Dev nD) : (dats m 0 c).arrAt 4 cfg0.N
    = Cert.downValue (m ((c : Thread nD τ).loc main_arg0)) (m ((c : Thread nD τ).loc main_arg1))
        (m ((c : Thread nD τ).loc main_arg2)) (V m c main_v0) := by
  refine (dats m 0 c).arrAt_eq_of_after_last 4 t0_0 (by decide +kernel) _ fun y => ?_
  blk_simp
  rw [after0_4]
  frame_out
  pointwise [k0_pay1]
  unfold Cert.downValue
  blk_point [iblk, idx t0_0]
  · exact (Nat.mod_eq_of_lt (by omega)).symm
  · exact (Nat.mod_eq_of_lt (by omega)).symm
end Cert.DownRefIdeal.Body
end
-- ==== Proof.DownClaims.lean ====
module

public import proofs.«01_k».proof.Defs
public import proofs.«01_k».proof.Proof.Gen.Down.Frame
public import proofs.«01_k».proof.Proof.DownValue
public import Idealize.ShloMosaic.Lib.Claim

/-! The claims about the down projection. -/

@[expose] public section

set_option maxRecDepth 16384

noncomputable section

namespace Cert.DownClaims

open Idealize.ShloMosaic Idealize.ShloMosaic.TcCoe Idealize.SL.Sem

/-- The kernel reads its residual through the reshape of the fourth argument. -/
theorem entry (m : (ℓ : Loc Cert.DownIdeal.nD Cert.DownIdeal.τ Cert.DownIdeal.sig) → Buf (Elt Ideal) ℓ)
    (c : Dev Cert.DownIdeal.nD) : Cert.DownIdeal.Gen.V m c Cert.DownIdeal.main_v0
      = shapeCast Cert.DownIdeal.S8192x3584 (m ((c.tc : Thread _ _).loc Cert.DownIdeal.main_arg3)) Cert.DownIdeal.Gen.shapeCasts_S4x2048x3584_S8192x3584 := by
  entry_read
  rfl

/-- So does the reference. -/
theorem entry_ref (m : (ℓ : Loc Cert.DownRefIdeal.nD Cert.DownRefIdeal.τ Cert.DownRefIdeal.sig) → Buf (Elt Ideal) ℓ)
    (c : Dev Cert.DownRefIdeal.nD) : Cert.DownRefIdeal.Gen.V m c Cert.DownRefIdeal.main_v0
      = shapeCast Cert.DownIdeal.S8192x3584 (m ((c.tc : Thread _ _).loc Cert.DownRefIdeal.main_arg3)) Cert.DownIdeal.Gen.shapeCasts_S4x2048x3584_S8192x3584 := by
  entry_read
  rfl

/-- Over the reals the kernel and its reference, run on equal arguments, end with equal results. -/
theorem algebraic : Cert.algebraic_DownIdeal_DownRefIdeal (hDownIdeal := Cert.DownIdeal.Gen.facts)
    (hDownRefIdeal := Cert.DownRefIdeal.Gen.facts) := by
  intro m g m' g' _ hargs
  refine ⟨fun c => (Cert.DownIdeal.Gen.dats m 0 c).arrAt 4 Cert.DownIdeal.cfg0.N, Cert.DownIdeal.Value.run_blocks m g, ?_⟩
  refine (θ_run (Cert.DownRefIdeal.defs (F := Ideal)) _ _).mono (fun r h c => ?_) (Cert.DownRefIdeal.Value.run_blocks m' g')
  obtain ⟨hv, hrest⟩ := h c
  refine ⟨hv.trans ?_, hrest⟩
  obtain ⟨e0, e1, e2, e3⟩ := hargs c
  refine (Cert.DownRefIdeal.Body.final m' c).trans (Eq.trans ?_ (Cert.DownIdeal.Body.final m c).symm)
  rw [entry, entry_ref]
  exact congr (congr (congr (congrArg Cert.downValue e0) e1) e2) (congrArg (fun z => shapeCast Cert.DownIdeal.S8192x3584 z _) e3)

end Cert.DownClaims

end
-- ==== Proof.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownRefIdeal.Value
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Skeleton
public import proofs.«01_k».proof.Proof.Gen.InProjRefIdeal.Launch
public import proofs.«01_k».proof.Proof.Gen.InProjRefIdeal.Points
public import proofs.«01_k».proof.Proof.Gen.InProjRefIdeal.Frame
public import proofs.«01_k».proof.Proof.Gen.InProjRefIdeal.Value
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Skeleton
public import proofs.«01_k».proof.Proof.Gen.NormRefIdeal.Launch
public import proofs.«01_k».proof.Proof.Gen.NormRefIdeal.Points
public import proofs.«01_k».proof.Proof.Gen.NormRefIdeal.Frame
public import proofs.«01_k».proof.Proof.Gen.NormRefIdeal.Value
public import proofs.«01_k».proof.Proof.NormClaims
public import proofs.«01_k».proof.Proof.InBits
public import proofs.«01_k».proof.Proof.InClaims
public import proofs.«01_k».proof.Proof.DownClaims
public import Idealize.ShloMosaic.Adequacy
public import Idealize.ShloMosaic.Init

@[expose] public section

noncomputable section

namespace Cert.Proof

open Idealize.ShloMosaic Idealize.SL.Sem

/-- Everything that is claimed. -/
theorem claim : Cert.Claim := ⟨Cert.Norm.Gen.facts, Cert.NormIdeal.Gen.facts, Cert.NormRefIdeal.Gen.facts,
  Cert.InProj.Gen.facts, Cert.InProjIdeal.Gen.facts, Cert.InProjRefIdeal.Gen.facts,
  Cert.Down.Gen.facts, Cert.DownIdeal.Gen.facts, Cert.DownRefIdeal.Gen.facts,
  fun m g _ => Cert.Norm.Gen.frame m g, fun m g _ => Cert.NormIdeal.Gen.frame m g, fun m g _ => Cert.NormRefIdeal.Gen.frame m g,
  fun m g _ => Cert.InProj.Body.frame m g, fun m g _ => Cert.InProjIdeal.Body.frame m g,
  fun m g _ => Cert.InProjRefIdeal.Gen.frame m g, fun m g _ => Cert.Down.Gen.frame m g,
  fun m g _ => Cert.DownIdeal.Gen.frame m g, fun m g _ => Cert.DownRefIdeal.Gen.frame m g,
  trivial, Cert.NormClaims.algebraic, trivial, Cert.InClaims.algebraic, trivial, Cert.DownClaims.algebraic⟩

end Cert.Proof

end
